-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S32x4x4096 : Shape := ⟨3, ![32, 4, 4096]⟩
abbrev S4096x4096 : Shape := ⟨2, ![4096, 4096]⟩
abbrev S4096x1024 : Shape := ⟨2, ![4096, 1024]⟩
abbrev S_ : Shape := ⟨0, ![]⟩

class Facts : Prop where
  bcast_S_S32x4x4096 : S_.BroadcastsInDim S32x4x4096 (![] : Fin 0 → Fin S32x4x4096.rank)
  reducesTo_S32x4x4096_S_d0_1_2 : S32x4x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S32x4x4096 .f32) (main_arg1 : FVec F S4096x4096 .f32) (main_arg2 : FVec F S4096x1024 .f32) (main_arg3 : FVec F S4096x1024 .f32) (main_arg4 : FVec F S4096x4096 .f32) : IVec S_ 1 :=
  let main_v0 : FVec F S32x4x4096 .f32 := Host.absf main_arg0
  let main_cst : FVec F S_ .f32 := constant S_ .f32 0x7F800000#32
  let main_v1 : FVec F S32x4x4096 .f32 := broadcastInDim S32x4x4096 ![] bcast_S_S32x4x4096 main_cst
  let main_v2 : IVec S32x4x4096 1 := cmpf .olt main_v0 main_v1
  let main_c : IVec S_ 1 := constantI S_ 1 1#1
  let main_v3 : IVec S_ 1 := (fun x v => Host.reduce IntOp.andi x v reducesTo_S32x4x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S32x4x4096 : Shape := ⟨3, ![32, 4, 4096]⟩
abbrev S4096x4096 : Shape := ⟨2, ![4096, 4096]⟩
abbrev S4096x1024 : Shape := ⟨2, ![4096, 1024]⟩
abbrev S128x4096 : Shape := ⟨2, ![128, 4096]⟩
abbrev S4096x128 : Shape := ⟨2, ![4096, 128]⟩
abbrev S2x4096x512 : Shape := ⟨3, ![2, 4096, 512]⟩
abbrev S2x512x4096 : Shape := ⟨3, ![2, 512, 4096]⟩
abbrev S2 : Shape := ⟨1, ![2]⟩
abbrev S1 : Shape := ⟨1, ![1]⟩
abbrev S_ : Shape := ⟨0, ![]⟩
abbrev S1x4096x512 : Shape := ⟨3, ![1, 4096, 512]⟩
abbrev S4096x512 : Shape := ⟨2, ![4096, 512]⟩
abbrev S1x512x4096 : Shape := ⟨3, ![1, 512, 4096]⟩
abbrev S512x4096 : Shape := ⟨2, ![512, 4096]⟩
abbrev S128x128 : Shape := ⟨2, ![128, 128]⟩
abbrev S128 : Shape := ⟨1, ![128]⟩
abbrev S128x1 : Shape := ⟨2, ![128, 1]⟩

abbrev nBuf : Space → Nat
  | .hbm => 8
  | .vmem => 8
  | .smem => 0
  | _ => 0

abbrev bufTy : (tb : Table) → Fin (tcTables nBuf tb) → BufTy
  | .hbm, ⟨0, _⟩ => ⟨S32x4x4096, .f32⟩
  | .hbm, ⟨1, _⟩ => ⟨S4096x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S128x4096, .f32⟩
  | .hbm, ⟨6, _⟩ => ⟨S128x4096, .f32⟩
  | .hbm, ⟨7, _⟩ => ⟨S32x4x4096, .f32⟩
  | .local _ .vmem, ⟨0, _⟩ => ⟨S128x4096, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S128x4096, .f32⟩
  | .local _ .vmem, ⟨6, _⟩ => ⟨S2x4096x512, .f32⟩
  | .local _ .vmem, ⟨7, _⟩ => ⟨S2x512x4096, .f32⟩
  | _, _ => ⟨S32x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v6 : BitVec 1 := Scalar.cmpi .slt arg0 c7_i32
  let v7 : BitVec 32 := Scalar.extui v6
  let c0_i32_2 : BitVec 32 := 0#32
  let v8 : BitVec 1 := Scalar.cmpi .ne v7 c0_i32_2
  v8

def k0_off1 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off2 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_92 : BitVec 32 := 0#32
  let c0_i32_93 : BitVec 32 := 0#32
  ![v2.toNat, 0, 0]
def k0_off3 (i : grid0.Coords) : Fin 2 → Nat :=
  let c0_i32_94 : BitVec 32 := 0#32
  let arg0 : BitVec 32 := BitVec.ofNat 32 (i 0).val
  let c1_i32_90 : BitVec 32 := 1#32
  let v162 : BitVec 32 := Scalar.addi arg0 c1_i32_90
  let c512_i32_91 : BitVec 32 := 512#32
  let v163 : BitVec 32 := Scalar.muli v162 c512_i32_91
  ![0, v163.toNat]
def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_16 : BitVec 32 := 0#32
  let c0_i32_17 : BitVec 32 := 0#32
  ![v0.toNat, 0, 0]
def k0_off6 (i : grid0.Coords) : Fin 2 → Nat :=
  let c0_i32_18 : BitVec 32 := 0#32
  let arg0 : BitVec 32 := BitVec.ofNat 32 (i 0).val
  let c512_i32 : BitVec 32 := 512#32
  let v46 : BitVec 32 := Scalar.muli arg0 c512_i32
  ![0, v46.toNat]
def k0_cond3 (i : grid0.Coords) : BitVec 1 :=
  let arg0 : BitVec 32 := BitVec.ofNat 32 (i 0).val
  let c7_i32_60 : BitVec 32 := 7#32
  let v128 : BitVec 1 := Scalar.cmpi .slt arg0 c7_i32_60
  let v129 : BitVec 32 := Scalar.extui v128
  let c0_i32_61 : BitVec 32 := 0#32
  let v130 : BitVec 1 := Scalar.cmpi .ne v129 c0_i32_61
  v130

def k0_off7 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off8 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_92 : BitVec 32 := 0#32
  let c0_i32_93 : BitVec 32 := 0#32
  ![v2.toNat, 0, 0]
def k0_off9 (i : grid0.Coords) : Fin 2 → Nat :=
  let arg0 : BitVec 32 := BitVec.ofNat 32 (i 0).val
  let c1_i32_90 : BitVec 32 := 1#32
  let v162 : BitVec 32 := Scalar.addi arg0 c1_i32_90
  let c512_i32_91 : BitVec 32 := 512#32
  let v163 : BitVec 32 := Scalar.muli v162 c512_i32_91
  let c0_i32_94 : BitVec 32 := 0#32
  ![v163.toNat, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let c0_i32_63 : BitVec 32 := 0#32
  let c0_i32_64 : BitVec 32 := 0#32
  ![v0.toNat, 0, 0]
def k0_off11 (i : grid0.Coords) : Fin 2 → Nat :=
  let arg0 : BitVec 32 := BitVec.ofNat 32 (i 0).val
  let c512_i32_62 : BitVec 32 := 512#32
  let v131 : BitVec 32 := Scalar.muli arg0 c512_i32_62
  let c0_i32_65 : BitVec 32 := 0#32
  ![v131.toNat, 0]
def k0_cond4 (i : grid0.Coords) : BitVec 1 :=
  let arg0 : BitVec 32 := BitVec.ofNat 32 (i 0).val
  let c0_i32_86 : BitVec 32 := 0#32
  let v156 : BitVec 1 := Scalar.cmpi .eq arg0 c0_i32_86
  let v157 : BitVec 32 := Scalar.extui v156
  let c0_i32_87 : BitVec 32 := 0#32
  let v158 : BitVec 1 := Scalar.cmpi .ne v157 c0_i32_87
  v158

def k0_cond5 (i : grid0.Coords) : BitVec 1 :=
  let arg0 : BitVec 32 := BitVec.ofNat 32 (i 0).val
  let c0_i32_88 : BitVec 32 := 0#32
  let v159 : BitVec 1 := Scalar.cmpi .sgt arg0 c0_i32_88
  let v160 : BitVec 32 := Scalar.extui v159
  let c0_i32_89 : BitVec 32 := 0#32
  let v161 : BitVec 1 := Scalar.cmpi .ne v160 c0_i32_89
  v161

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S32x4x4096 : Shape := ⟨3, ![32, 4, 4096]⟩
abbrev S4096x4096 : Shape := ⟨2, ![4096, 4096]⟩
abbrev S4096x1024 : Shape := ⟨2, ![4096, 1024]⟩
abbrev S32x4x32x128 : Shape := ⟨4, ![32, 4, 32, 128]⟩
abbrev S32x32x4x128 : Shape := ⟨4, ![32, 32, 4, 128]⟩
abbrev S32x4x1024 : Shape := ⟨3, ![32, 4, 1024]⟩
abbrev S32x4x8x128 : Shape := ⟨4, ![32, 4, 8, 128]⟩
abbrev S32x8x4x128 : Shape := ⟨4, ![32, 8, 4, 128]⟩
abbrev S32x8x4x4x128 : Shape := ⟨5, ![32, 8, 4, 4, 128]⟩
abbrev S32x32x4x4 : Shape := ⟨4, ![32, 32, 4, 4]⟩
abbrev S_ : Shape := ⟨0, ![]⟩
abbrev S4x4 : Shape := ⟨2, ![4, 4]⟩
abbrev S1x1x4x4 : Shape := ⟨4, ![1, 1, 4, 4]⟩
abbrev S32x32x4 : Shape := ⟨3, ![32, 32, 4]⟩
abbrev S32x32x4x1 : Shape := ⟨4, ![32, 32, 4, 1]⟩

abbrev nBuf : Space → Nat
  | .hbm => 58
  | .vmem => 0
  | .smem => 0
  | _ => 0

abbrev bufTy : (tb : Table) → Fin (tcTables nBuf tb) → BufTy
  | .hbm, ⟨0, _⟩ => ⟨S32x4x4096, .f32⟩
  | .hbm, ⟨1, _⟩ => ⟨S4096x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S32x4x4096, .f32⟩
  | .hbm, ⟨6, _⟩ => ⟨S32x4x32x128, .f32⟩
  | .hbm, ⟨7, _⟩ => ⟨S32x32x4x128, .f32⟩
  | .hbm, ⟨8, _⟩ => ⟨S32x4x1024, .f32⟩
  | .hbm, ⟨9, _⟩ => ⟨S32x4x8x128, .f32⟩
  | .hbm, ⟨10, _⟩ => ⟨S32x8x4x128, .f32⟩
  | .hbm, ⟨11, _⟩ => ⟨S32x4x1024, .f32⟩
  | .hbm, ⟨12, _⟩ => ⟨S32x4x8x128, .f32⟩
  | .hbm, ⟨13, _⟩ => ⟨S32x8x4x128, .f32⟩
  | .hbm, ⟨14, _⟩ => ⟨S32x8x4x4x128, .f32⟩
  | .hbm, ⟨15, _⟩ => ⟨S32x32x4x128, .f32⟩
  | .hbm, ⟨16, _⟩ => ⟨S32x8x4x4x128, .f32⟩
  | .hbm, ⟨17, _⟩ => ⟨S32x32x4x128, .f32⟩
  | .hbm, ⟨18, _⟩ => ⟨S32x32x4x4, .f32⟩
  | .hbm, ⟨19, _⟩ => ⟨S_, .f32⟩
  | .hbm, ⟨20, _⟩ => ⟨S_, .f32⟩
  | .hbm, ⟨21, _⟩ => ⟨S32x32x4x4, .f32⟩
  | .hbm, ⟨22, _⟩ => ⟨S32x32x4x4, .f32⟩
  | .hbm, ⟨23, _⟩ => ⟨S_, .i1⟩
  | .hbm, ⟨24, _⟩ => ⟨S4x4, .i1⟩
  | .hbm, ⟨25, _⟩ => ⟨S4x4, .i32⟩
  | .hbm, ⟨26, _⟩ => ⟨S_, .i32⟩
  | .hbm, ⟨27, _⟩ => ⟨S4x4, .i32⟩
  | .hbm, ⟨28, _⟩ => ⟨S4x4, .i32⟩
  | .hbm, ⟨29, _⟩ => ⟨S4x4, .i32⟩
  | .hbm, ⟨30, _⟩ => ⟨S4x4, .i1⟩
  | .hbm, ⟨31, _⟩ => ⟨S_, .i1⟩
  | .hbm, ⟨32, _⟩ => ⟨S4x4, .i1⟩
  | .hbm, ⟨33, _⟩ => ⟨S4x4, .i1⟩
  | .hbm, ⟨34, _⟩ => ⟨S1x1x4x4, .i1⟩
  | .hbm, ⟨35, _⟩ => ⟨S_, .f32⟩
  | .hbm, ⟨36, _⟩ => ⟨S_, .f32⟩
  | .hbm, ⟨37, _⟩ => ⟨S32x32x4x4, .i1⟩
  | .hbm, ⟨38, _⟩ => ⟨S32x32x4x4, .f32⟩
  | .hbm, ⟨39, _⟩ => ⟨S32x32x4x4, .f32⟩
  | .hbm, ⟨40, _⟩ => ⟨S_, .f32⟩
  | .hbm, ⟨41, _⟩ => ⟨S32x32x4, .f32⟩
  | .hbm, ⟨42, _⟩ => ⟨S_, .f32⟩
  | .hbm, ⟨43, _⟩ => ⟨S32x32x4, .f32⟩
  | .hbm, ⟨44, _⟩ => ⟨S32x32x4, .f32⟩
  | .hbm, ⟨45, _⟩ => ⟨S32x32x4x1, .f32⟩
  | .hbm, ⟨46, _⟩ => ⟨S32x32x4x4, .f32⟩
  | .hbm, ⟨47, _⟩ => ⟨S32x32x4x4, .f32⟩
  | .hbm, ⟨48, _⟩ => ⟨S32x32x4x4, .f32⟩
  | .hbm, ⟨49, _⟩ => ⟨S_, .f32⟩
  | .hbm, ⟨50, _⟩ => ⟨S32x32x4, .f32⟩
  | .hbm, ⟨51, _⟩ => ⟨S32x32x4x1, .f32⟩
  | .hbm, ⟨52, _⟩ => ⟨S32x32x4x4, .f32⟩
  | .hbm, ⟨53, _⟩ => ⟨S32x32x4x4, .f32⟩
  | .hbm, ⟨54, _⟩ => ⟨S32x32x4x128, .f32⟩
  | .hbm, ⟨55, _⟩ => ⟨S32x4x32x128, .f32⟩
  | .hbm, ⟨56, _⟩ => ⟨S32x4x4096, .f32⟩
  | .hbm, ⟨57, _⟩ => ⟨S32x4x4096, .f32⟩
  | _, _ => ⟨S32x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Proof.Rings.lean ====
/- What the runs of the idealized kernel's body share: the program around its one pipelined region, the windows' blocks, the
   branch conditions in closed form, and the two rings of weight blocks the body streams by its own transfers (the query
   weights through the slots of one scratch buffer, the output weights through the slots of the other). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      (((h c).2 main_arg4 (Pipeline.mem_restRefs_of main_arg4 (by decide) (by decide))).trans (W_main_arg4 m dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points before point 7 — decided over the grid. -/
theorem hcond0_1 : ∀ t : Fin cfg0.N, cond0_1 (grid0.coords t) ↔ t.val < 7 :=
  (by decide +kernel : ∀ t : Fin grid0.N, cond0_1 (grid0.coords t) ↔ t.val < 7)

/-- The condition of the body's `scf.if` 2 (`k0_h3`), from the grid coordinates (the skeleton's scalar
    chain substituted). -/
abbrev cond0_2 (i : grid0.Coords) : Prop := k0_cond3 i = 1#1
/-- It holds at the points before point 7 — decided over the grid. -/
theorem hcond0_2 : ∀ t : Fin cfg0.N, cond0_2 (grid0.coords t) ↔ t.val < 7 :=
  (by decide +kernel : ∀ t : Fin grid0.N, cond0_2 (grid0.coords t) ↔ t.val < 7)

/-- The condition of the body's `scf.if` 3 (`k0_h4`), from the grid coordinates (the skeleton's scalar
    chain substituted). -/
abbrev cond0_3 (i : grid0.Coords) : Prop := k0_cond4 i = 1#1
/-- It holds at the first point only — by arithmetic of the point. -/
theorem hcond0_3 : ∀ t : Fin cfg0.N, cond0_3 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_3, k0_cond4, e0]
    word_cmp
   : ∀ t : Fin grid0.N, cond0_3 (grid0.coords t) ↔ t.val % 8 = 0)

/-- The condition of the body's `scf.if` 4 (`k0_h5`), from the grid coordinates (the skeleton's scalar
    chain substituted). -/
abbrev cond0_4 (i : grid0.Coords) : Prop := k0_cond5 i = 1#1
/-- It holds at the points from point 1 on — decided over the grid. -/
theorem hcond0_4 : ∀ t : Fin cfg0.N, cond0_4 (grid0.coords t) ↔ 1 ≤ t.val :=
  (by decide +kernel : ∀ t : Fin grid0.N, cond0_4 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S2x4096x512 .f32 := Memref.whole cc0_scratch0
abbrev scM0_1 : Memref sig .tc .vmem S2x512x4096 .f32 := Memref.whole cc0_scratch1
/-- The operands left in HBM that the body copies into scratch itself, whole. -/
abbrev hbM0_0 : Memref sig .tc .hbm S4096x4096 .f32 := Memref.whole main_arg1
abbrev hbM0_1 : Memref sig .tc .hbm S4096x4096 .f32 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg1, main_arg4}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1) ∗ hbPt0 c hbM0_1 (V m c main_arg4)) := by
  rw [BI.bigSep_eq_bigSepL_of_eq [main_arg1, main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt0 c hbM0_0 (V m c main_arg1) ∗ hbPt0 c hbM0_1 (V m c main_arg4))) := by
  rw [Pipeline.ΦD_eq, scopedRest0_eq, ownSems00_eq, hbmPts0_eq]; simp only [scM0_0, scM0_1, owns_whole]; try rfl

/-! ## Ring 0 of kernel 0: `main_arg1` streamed through the 2 slots of `cc0_scratch0` on the cells of `cc0_scratch2`, 1 block ahead, in 8 steps -/

instance : NeZero grid0.N := ⟨by rw [N_0]; decide⟩
theorem inb_slot0_0 (s : Fin 2) : ∀ a, (![s.val, 0, 0] : Fin 3 → Nat) a + S1x4096x512.size a ≤ S2x4096x512.size a := by
  have := s.isLt; intro a; fin_cases a <;> simp <;> omega
theorem inb_src0_0 (b : Fin 8) : ∀ a, (![0, 512 * b.val] : Fin 2 → Nat) a + S4096x512.size a ≤ S4096x4096.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_0 (s : Fin 2) : Memref sig .tc .vmem S4096x512 .f32 :=
  (scM0_0.slice (Rect.unit (s := S2x4096x512) ![s.val, 0, 0] S1x4096x512.size (inb_slot0_0 s)) (fun _ => rfl)).squeeze S4096x512 squeezes_S1x4096x512_S4096x512
/-- Block `b` of the operand (the block step `b` waits), spelt as the transfers spell their source, at offsets in `b`. -/
def srcB0_0 (b : Fin 8) : Memref sig .tc .hbm S4096x512 .f32 :=
  hbM0_0.slice (Rect.unit (s := S4096x4096) ![0, 512 * b.val] S4096x512.size (inb_src0_0 b)) (fun _ => rfl)
/-- Cell `s` of `cc0_scratch2`, spelt as the body spells a cell; its number in the pool. -/
def cellA0_0 (s : Fin 2) : DmaSems sig S_ := (cc0_scratch2.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 6 := by decide
theorem cellR0_0_1 : cellR0_0 1 = SemLoc.dma 7 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 8) : sProp 𝕄 := (srcB0_0 b).view.loc (c : Thread nD τ) ↦[(srcB0_0 b).view.set]{qs0_0 s} W
/-- (a `def`: no run reads this rest, and folded it stays out of the executor's table of held buffers) -/
def restP0_0 (s : Fin 2) (b : Fin 8) : sProp 𝕄 := ((c : Thread nD τ).loc main_arg1) ↦[Finset.univ \ (srcB0_0 b).view.set]{qs0_0 s} W
abbrev wholeP0_0 (s : Fin 2) : sProp 𝕄 := ((c : Thread nD τ).loc main_arg1) ↦[Finset.univ]{qs0_0 s} W
abbrev landed0_0 (s : Fin 2) (b : Fin 8) (f : HbBuf0 (F := F) c (rslot0_0 s)) : HbBuf0 (F := F) c (rslot0_0 s) :=
  (rslot0_0 s).view.writes (Elt F) f [⟨Rect.whole S4096x512, ReadAs.same.apply ((srcB0_0 b).view.read (Elt F) W)⟩]
abbrev flightP0_0 (s : Fin 2) (b : Fin 8) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 8) (f : HbBuf0 (F := F) c (rslot0_0 s)) : sProp 𝕄 := iprop(flightP0_0 c W s b f ∗ restP0_0 c W s b)
abbrev noHome0_0 (b : Fin 8) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] [Named F] in
theorem cellP0_0_0 : cellP0_0 (F := F) c 0 = semVal ((c : Thread nD τ), SemLoc.dma 6) 0 := congrArg (fun x => (semVal ((c : Thread nD τ), x) 0 : sProp 𝕄)) cellR0_0_0
omit [FloatOps F] [Named F] in
theorem cellP0_0_1 : cellP0_0 (F := F) c 1 = semVal ((c : Thread nD τ), SemLoc.dma 7) 0 := congrArg (fun x => (semVal ((c : Thread nD τ), x) 0 : sProp 𝕄)) cellR0_0_1
end Ring0_0

/-! ### The slots, disjoint and covering the scratch (Lib/Ring.lean `lead_disjoint` / `lead_cover`) -/

abbrev slotSet0_0 (s : Fin 2) : Finset S2x4096x512.Idx := (Rect.unit (s := S2x4096x512) ![s.val, 0, 0] S1x4096x512.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x4096x512) (0 : Fin 3) 1 (fun s : Fin 2 => (![s.val, 0, 0] : Fin 3 → Nat)) S1x4096x512.size inb_slot0_0 (fun s => by simp) rfl s s' h
theorem slots0_0_cover : Finset.univ.biUnion slotSet0_0 = Finset.univ :=
  Ring.lead_cover (s := S2x4096x512) (0 : Fin 3) 1 (fun s : Fin 2 => (![s.val, 0, 0] : Fin 3 → Nat)) S1x4096x512.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 8) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ ∃ f, slotP0_0 (F := F) c 1 f) : sProp 𝕄) := by
  simp only [scM0_0, owns_whole]
  exact Ring.slots2_split (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 6) 0 ∗ semVal ((c : Thread nD τ), SemLoc.dma 7) 0) ∗ hbPt0 c hbM0_0 (V m c main_arg1))
      ⊢ ringAt0_0 c (V m c main_arg1) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_arg1)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_arg1) 8
      ⊢ iprop((∃ d, owns (c : Thread nD τ) scM0_0 fullShare d) ∗ (semVal ((c : Thread nD τ), SemLoc.dma 6) 0 ∗ semVal ((c : Thread nD τ), SemLoc.dma 7) 0) ∗ hbPt0 c hbM0_0 (V m c main_arg1)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_arg1)).2; isplitl [HW0]; · iexact HW0
    iexact HW1

/-! ### Ring 0's steps at each case's points, and its canonical names: the body's operands at point `t` are the ring's slots, blocks and cells -/

section Canon0_0
omit [FloatOps F] [Named F]
/-- At the points of case A the ring takes its FIRST step. -/
theorem rstep0_0_A : ∀ t : Fin grid0.N, cond0_0 (grid0.coords t) → cond0_1 (grid0.coords t) → cond0_2 (grid0.coords t) → cond0_3 (grid0.coords t) → ¬cond0_4 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → cond0_2 (grid0.coords t) → ¬cond0_3 (grid0.coords t) → cond0_4 (grid0.coords t) → 1 ≤ t.val ∧ t.val + 1 < 8 ∧ (t.val + 1) = t.val + 1 := by decide +kernel
/-- At the points of case C the ring takes its LAST step. -/
theorem rstep0_0_C : ∀ t : Fin grid0.N, ¬cond0_0 (grid0.coords t) → ¬cond0_1 (grid0.coords t) → ¬cond0_2 (grid0.coords t) → ¬cond0_3 (grid0.coords t) → cond0_4 (grid0.coords t) → 1 ≤ t.val ∧ t.val + 1 = 8 ∧ (t.val + 1) = t.val + 1 := by decide +kernel
set_option synthInstance.maxSize 4096 in
theorem coff0_0_1 : ∀ t : Fin grid0.N, cond0_0 (grid0.coords t) → cond0_1 (grid0.coords t) → cond0_2 (grid0.coords t) → cond0_3 (grid0.coords t) → ¬cond0_4 (grid0.coords t) → (![0, 0, 0] : Fin 3 → Nat) = ![(Ring.sl 2 t.val).val, 0, 0] := by decide +kernel
@[sl_canon] theorem canon0_0_1 (t : Fin grid0.N) (h0 : cond0_0 (grid0.coords t)) (h1 : cond0_1 (grid0.coords t)) (h2 : cond0_2 (grid0.coords t)) (h3 : cond0_3 (grid0.coords t)) (h4 : ¬cond0_4 (grid0.coords t)) :
    (scM0_0.slice (Rect.unit (s := S2x4096x512) ![0, 0, 0] S1x4096x512.size inb_S2x4096x512_S1x4096x512_0_0_0) (fun _ => rfl)).squeeze S4096x512 squeezes_S1x4096x512_S4096x512 = rslot0_0 (Ring.sl 2 t.val) :=
  congrArg (fun M : Memref sig .tc .vmem S1x4096x512 .f32 => M.squeeze S4096x512 squeezes_S1x4096x512_S4096x512) (Memref.slice_unit_congr _ (coff0_0_1 t h0 h1 h2 h3 h4) _ _ (fun _ => rfl) (fun _ => rfl))
set_option synthInstance.maxSize 4096 in
theorem coff0_0_2 : ∀ t : Fin grid0.N, cond0_0 (grid0.coords t) → cond0_1 (grid0.coords t) → cond0_2 (grid0.coords t) → cond0_3 (grid0.coords t) → ¬cond0_4 (grid0.coords t) → (![0] : Fin 1 → Nat) = ![(Ring.sl 2 t.val).val] := by decide +kernel
@[sl_canon] theorem canon0_0_2 (t : Fin grid0.N) (h0 : cond0_0 (grid0.coords t)) (h1 : cond0_1 (grid0.coords t)) (h2 : cond0_2 (grid0.coords t)) (h3 : cond0_3 (grid0.coords t)) (h4 : ¬cond0_4 (grid0.coords t)) :
    (cc0_scratch2.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1 h2 h3 h4) _ _)
set_option synthInstance.maxSize 4096 in
theorem coff0_0_3 : ∀ t : Fin grid0.N, cond0_0 (grid0.coords t) → cond0_1 (grid0.coords t) → cond0_2 (grid0.coords t) → cond0_3 (grid0.coords t) → ¬cond0_4 (grid0.coords t) → (![0, 0] : Fin 2 → Nat) = ![0, 512 * (Ring.bk 8 t.val).val] := by decide +kernel
@[sl_canon] theorem canon0_0_3 (t : Fin grid0.N) (h0 : cond0_0 (grid0.coords t)) (h1 : cond0_1 (grid0.coords t)) (h2 : cond0_2 (grid0.coords t)) (h3 : cond0_3 (grid0.coords t)) (h4 : ¬cond0_4 (grid0.coords t)) :
    hbM0_0.slice (Rect.unit (s := S4096x4096) ![0, 0] S4096x512.size inb_S4096x4096_S4096x512_0_0) (fun _ => rfl) = srcB0_0 (Ring.bk 8 t.val) :=
  congrArg (fun M : Memref sig .tc .hbm S4096x512 .f32 => M) (Memref.slice_unit_congr _ (coff0_0_3 t h0 h1 h2 h3 h4) _ _ (fun _ => rfl) (fun _ => rfl))
set_option synthInstance.maxSize 4096 in
theorem coff0_0_4 : ∀ t : Fin grid0.N, k0_off2 (grid0.coords t) = ![(Ring.sl 2 (t.val + 1)).val, 0, 0] := by decide +kernel
@[sl_canon] theorem canon0_0_4 (t : Fin grid0.N) (h1 : cond0_1 (grid0.coords t)) :
    (scM0_0.slice (Rect.unit (s := S2x4096x512) (k0_off2 (grid0.coords t)) S1x4096x512.size (k0_off2_inb (grid0.coords t) h1)) (fun _ => rfl)).squeeze S4096x512 squeezes_S1x4096x512_S4096x512 = rslot0_0 (Ring.sl 2 (t.val + 1)) :=
  congrArg (fun M : Memref sig .tc .vmem S1x4096x512 .f32 => M.squeeze S4096x512 squeezes_S1x4096x512_S4096x512) (Memref.slice_unit_congr _ (coff0_0_4 t ) _ _ (fun _ => rfl) (fun _ => rfl))
set_option synthInstance.maxSize 4096 in
theorem coff0_0_5 : ∀ t : Fin grid0.N, k0_off1 (grid0.coords t) = ![(Ring.sl 2 (t.val + 1)).val] := by decide +kernel
@[sl_canon] theorem canon0_0_5 (t : Fin grid0.N) (h1 : cond0_1 (grid0.coords t)) :
    (cc0_scratch2.slice (Rect.unit (s := S2) (k0_off1 (grid0.coords t)) S1.size (k0_off1_inb (grid0.coords t) h1))).squeeze S_ squeezes_S1_S_ = cellA0_0 (Ring.sl 2 (t.val + 1)) :=
  congrArg (fun A : DmaSems sig S1 => A.squeeze S_ squeezes_S1_S_) (SemArray.slice_unit_congr _ (coff0_0_5 t ) _ _)
set_option synthInstance.maxSize 4096 in
theorem coff0_0_6 : ∀ t : Fin grid0.N, cond0_0 (grid0.coords t) → cond0_1 (grid0.coords t) → cond0_2 (grid0.coords t) → cond0_3 (grid0.coords t) → ¬cond0_4 (grid0.coords t) → k0_off3 (grid0.coords t) = ![0, 512 * (Ring.bk 8 (t.val + 1)).val] := by decide +kernel
@[sl_canon] theorem canon0_0_6 (t : Fin grid0.N) (h0 : cond0_0 (grid0.coords t)) (h1 : cond0_1 (grid0.coords t)) (h2 : cond0_2 (grid0.coords t)) (h3 : cond0_3 (grid0.coords t)) (h4 : ¬cond0_4 (grid0.coords t)) :
    hbM0_0.slice (Rect.unit (s := S4096x4096) (k0_off3 (grid0.coords t)) S4096x512.size (k0_off3_inb (grid0.coords t) h1)) (fun _ => rfl) = srcB0_0 (Ring.bk 8 (t.val + 1)) :=
  congrArg (fun M : Memref sig .tc .hbm S4096x512 .f32 => M) (Memref.slice_unit_congr _ (coff0_0_6 t h0 h1 h2 h3 h4) _ _ (fun _ => rfl) (fun _ => rfl))
set_option synthInstance.maxSize 4096 in
theorem coff0_0_7 : ∀ t : Fin grid0.N, k0_off5 (grid0.coords t) = ![(Ring.sl 2 t.val).val, 0, 0] := by decide +kernel
@[sl_canon] theorem canon0_0_7 (t : Fin grid0.N) :
    (scM0_0.slice (Rect.unit (s := S2x4096x512) (k0_off5 (grid0.coords t)) S1x4096x512.size (k0_off5_inb (grid0.coords t))) (fun _ => rfl)).squeeze S4096x512 squeezes_S1x4096x512_S4096x512 = rslot0_0 (Ring.sl 2 t.val) :=
  congrArg (fun M : Memref sig .tc .vmem S1x4096x512 .f32 => M.squeeze S4096x512 squeezes_S1x4096x512_S4096x512) (Memref.slice_unit_congr _ (coff0_0_7 t ) _ _ (fun _ => rfl) (fun _ => rfl))
set_option synthInstance.maxSize 4096 in
theorem coff0_0_8 : ∀ t : Fin grid0.N, k0_off4 (grid0.coords t) = ![(Ring.sl 2 t.val).val] := by decide +kernel
@[sl_canon] theorem canon0_0_8 (t : Fin grid0.N) :
    (cc0_scratch2.slice (Rect.unit (s := S2) (k0_off4 (grid0.coords t)) S1.size (k0_off4_inb (grid0.coords t)))).squeeze S_ squeezes_S1_S_ = cellA0_0 (Ring.sl 2 t.val) :=
  congrArg (fun A : DmaSems sig S1 => A.squeeze S_ squeezes_S1_S_) (SemArray.slice_unit_congr _ (coff0_0_8 t ) _ _)
set_option synthInstance.maxSize 4096 in
theorem coff0_0_9 : ∀ t : Fin grid0.N, ¬cond0_0 (grid0.coords t) → cond0_1 (grid0.coords t) → cond0_2 (grid0.coords t) → ¬cond0_3 (grid0.coords t) → cond0_4 (grid0.coords t) → k0_off3 (grid0.coords t) = ![0, 512 * (Ring.bk 8 (t.val + 1)).val] := by decide +kernel
@[sl_canon] theorem canon0_0_9 (t : Fin grid0.N) (h0 : ¬cond0_0 (grid0.coords t)) (h1 : cond0_1 (grid0.coords t)) (h2 : cond0_2 (grid0.coords t)) (h3 : ¬cond0_3 (grid0.coords t)) (h4 : cond0_4 (grid0.coords t)) :
    hbM0_0.slice (Rect.unit (s := S4096x4096) (k0_off3 (grid0.coords t)) S4096x512.size (k0_off3_inb (grid0.coords t) h1)) (fun _ => rfl) = srcB0_0 (Ring.bk 8 (t.val + 1)) :=
  congrArg (fun M : Memref sig .tc .hbm S4096x512 .f32 => M) (Memref.slice_unit_congr _ (coff0_0_9 t h0 h1 h2 h3 h4) _ _ (fun _ => rfl) (fun _ => rfl))
end Canon0_0

/-! ## Ring 1 of kernel 0: `main_arg4` streamed through the 2 slots of `cc0_scratch1` on the cells of `cc0_scratch3`, 1 block ahead, in 8 steps -/

theorem inb_slot0_1 (s : Fin 2) : ∀ a, (![s.val, 0, 0] : Fin 3 → Nat) a + S1x512x4096.size a ≤ S2x512x4096.size a := by
  have := s.isLt; intro a; fin_cases a <;> simp <;> omega
theorem inb_src0_1 (b : Fin 8) : ∀ a, (![512 * b.val, 0] : Fin 2 → Nat) a + S512x4096.size a ≤ S4096x4096.size a := by
  have := b.isLt; intro a; fin_cases a <;> simp <;> omega
theorem inb_cell0_1 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_1 (s : Fin 2) : Memref sig .tc .vmem S512x4096 .f32 :=
  (scM0_1.slice (Rect.unit (s := S2x512x4096) ![s.val, 0, 0] S1x512x4096.size (inb_slot0_1 s)) (fun _ => rfl)).squeeze S512x4096 squeezes_S1x512x4096_S512x4096
/-- Block `b` of the operand (the block step `b` waits), spelt as the transfers spell their source, at offsets in `b`. -/
def srcB0_1 (b : Fin 8) : Memref sig .tc .hbm S512x4096 .f32 :=
  hbM0_1.slice (Rect.unit (s := S4096x4096) ![512 * b.val, 0] S512x4096.size (inb_src0_1 b)) (fun _ => rfl)
/-- Cell `s` of `cc0_scratch3`, spelt as the body spells a cell; its number in the pool. -/
def cellA0_1 (s : Fin 2) : DmaSems sig S_ := (cc0_scratch3.slice (Rect.unit (s := S2) ![s.val] S1.size (inb_cell0_1 s))).squeeze S_ squeezes_S1_S_
abbrev cellR0_1 (s : Fin 2) : SemLoc sig := SemLoc.dma (cellA0_1 s).sem
theorem cellR0_1_0 : cellR0_1 0 = SemLoc.dma 8 := by decide
theorem cellR0_1_1 : cellR0_1 1 = SemLoc.dma 9 := by decide

section Ring0_1
variable (c : Dev nD) (W : HbBuf0 (F := F) c hbM0_1)
/-- The operand is lent BY SHARE, one read-share copy of it per slot (the left and right halves of the full share): whatever
    blocks two transfers in flight stream — the same one twice, two that overlap —, each borrows from its own slot's copy. -/
abbrev qs0_1 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_1 (s : Fin 2) (f : HbBuf0 (F := F) c (rslot0_1 s)) : sProp 𝕄 := (rslot0_1 s).view.loc (c : Thread nD τ) ↦[(rslot0_1 s).view.set]{fullShare} f
abbrev cellP0_1 (s : Fin 2) : sProp 𝕄 := semVal ((c : Thread nD τ), cellR0_1 s) 0
abbrev srcP0_1 (s : Fin 2) (b : Fin 8) : sProp 𝕄 := (srcB0_1 b).view.loc (c : Thread nD τ) ↦[(srcB0_1 b).view.set]{qs0_1 s} W
/-- (a `def`: no run reads this rest, and folded it stays out of the executor's table of held buffers) -/
def restP0_1 (s : Fin 2) (b : Fin 8) : sProp 𝕄 := ((c : Thread nD τ).loc main_arg4) ↦[Finset.univ \ (srcB0_1 b).view.set]{qs0_1 s} W
abbrev wholeP0_1 (s : Fin 2) : sProp 𝕄 := ((c : Thread nD τ).loc main_arg4) ↦[Finset.univ]{qs0_1 s} W
abbrev landed0_1 (s : Fin 2) (b : Fin 8) (f : HbBuf0 (F := F) c (rslot0_1 s)) : HbBuf0 (F := F) c (rslot0_1 s) :=
  (rslot0_1 s).view.writes (Elt F) f [⟨Rect.whole S512x4096, ReadAs.same.apply ((srcB0_1 b).view.read (Elt F) W)⟩]
abbrev flightP0_1 (s : Fin 2) (b : Fin 8) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
/-- Lib/Ring.lean's `slot` and `flight` families: a slot not in flight carries its copy of the operand whole; a flight, the
    rest of the copy it borrowed from. No block is held apart: the `home` family is `emp`. -/
abbrev slotW0_1 (s : Fin 2) (f : HbBuf0 (F := F) c (rslot0_1 s)) : sProp 𝕄 := iprop(slotP0_1 c s f ∗ wholeP0_1 c W s)
abbrev flightW0_1 (s : Fin 2) (b : Fin 8) (f : HbBuf0 (F := F) c (rslot0_1 s)) : sProp 𝕄 := iprop(flightP0_1 c W s b f ∗ restP0_1 c W s b)
abbrev noHome0_1 (b : Fin 8) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt0_1 (k : ℕ) : sProp 𝕄 :=
  if k = 0 then Ring.At₀ (cellP0_1 c) (slotW0_1 c W) noHome0_1
  else Ring.AtK 1 (cellP0_1 c) (slotW0_1 c W) noHome0_1 (flightW0_1 c W) (landed0_1 c W) k
omit [FloatOps F] [Named F] in
theorem cellP0_1_0 : cellP0_1 (F := F) c 0 = semVal ((c : Thread nD τ), SemLoc.dma 8) 0 := congrArg (fun x => (semVal ((c : Thread nD τ), x) 0 : sProp 𝕄)) cellR0_1_0
omit [FloatOps F] [Named F] in
theorem cellP0_1_1 : cellP0_1 (F := F) c 1 = semVal ((c : Thread nD τ), SemLoc.dma 9) 0 := congrArg (fun x => (semVal ((c : Thread nD τ), x) 0 : sProp 𝕄)) cellR0_1_1
end Ring0_1

/-! ### The slots, disjoint and covering the scratch (Lib/Ring.lean `lead_disjoint` / `lead_cover`) -/

abbrev slotSet0_1 (s : Fin 2) : Finset S2x512x4096.Idx := (Rect.unit (s := S2x512x4096) ![s.val, 0, 0] S1x512x4096.size (inb_slot0_1 s)).set
theorem slotSet0_1_eq (s : Fin 2) : (rslot0_1 s).view.set = slotSet0_1 s := by
  simp only [rslot0_1, Memref.view_squeeze, View.set_reshape]; exact View.set_slice_whole _ _
theorem slots0_1_disjoint (s s' : Fin 2) (h : s ≠ s') : Disjoint (slotSet0_1 s) (slotSet0_1 s') :=
  Ring.lead_disjoint (s := S2x512x4096) (0 : Fin 3) 1 (fun s : Fin 2 => (![s.val, 0, 0] : Fin 3 → Nat)) S1x512x4096.size inb_slot0_1 (fun s => by simp) rfl s s' h
theorem slots0_1_cover : Finset.univ.biUnion slotSet0_1 = Finset.univ :=
  Ring.lead_cover (s := S2x512x4096) (0 : Fin 3) 1 (fun s : Fin 2 => (![s.val, 0, 0] : Fin 3 → Nat)) S1x512x4096.size inb_slot0_1 (fun s => by simp)
    (fun s a ha => by fin_cases a <;> first | exact absurd rfl ha | rfl) rfl (fun a ha => by fin_cases a <;> first | exact absurd rfl ha | rfl) rfl

/-! ### What the launch hands the ring, and takes back -/

section InOut0_1
variable (c : Dev nD) (W : HbBuf0 (F := F) c hbM0_1)
theorem slotP0_1_eq (s : Fin 2) (f) : slotP0_1 (F := F) c s f = (((c : Thread nD τ).loc cc0_scratch1) ↦[slotSet0_1 s]{fullShare} f : sProp 𝕄) := by
  unfold slotP0_1; rw [slotSet0_1_eq]; rfl
/-- A slot's copy of the operand, whole, is block `b`'s elements and the rest (any `b`: what a run splits off before its step
    starts block `b`, and joins back once the wait returned it); -/
theorem src0_1_split (s : Fin 2) (b : Fin 8) : wholeP0_1 (F := F) c W s ⊣⊢ iprop(srcP0_1 c W s b ∗ restP0_1 c W s b) := by
  unfold restP0_1; exact pointsTo_split_subset (Finset.subset_univ _)
/-- the operand whole at the full share is the two copies. -/
theorem whole0_1_split : (hbPt0 c hbM0_1 W : sProp 𝕄) ⊣⊢ iprop(wholeP0_1 c W 0 ∗ wholeP0_1 c W 1) :=
  pointsTo_share (PosShare.mem_left_op_right fullShare)
set_option maxHeartbeats 1000000 in
/-- the scratch whole at anything is its slots at something each, and back. -/
theorem slots0_1_in : iprop(∃ d, owns (c : Thread nD τ) scM0_1 fullShare d) ⊢ (iprop((∃ f, slotP0_1 (F := F) c 0 f) ∗ ∃ f, slotP0_1 (F := F) c 1 f) : sProp 𝕄) := by
  simp only [scM0_1, owns_whole]
  exact Ring.slots2_split (U := Pipeline.UD sig nD τ) (ℓ := (c : Thread nD τ).loc cc0_scratch1) (q := fullShare) slotSet0_1 slots0_1_disjoint slots0_1_cover
    (slotP0_1 c 0) (slotP0_1 c 1) (slotP0_1_eq c 0) (slotP0_1_eq c 1)
set_option maxHeartbeats 1000000 in
theorem slots0_1_out : (iprop((∃ f, slotP0_1 (F := F) c 0 f) ∗ ∃ f, slotP0_1 (F := F) c 1 f) : sProp 𝕄) ⊢ iprop(∃ d, owns (c : Thread nD τ) scM0_1 fullShare d) := by
  simp only [scM0_1, owns_whole]
  exact Ring.slots2_join (U := Pipeline.UD sig nD τ) (ℓ := (c : Thread nD τ).loc cc0_scratch1) (q := fullShare) slotSet0_1 slots0_1_disjoint slots0_1_cover
    (slotP0_1 c 0) (slotP0_1 c 1) (slotP0_1_eq c 0) (slotP0_1_eq c 1)
end InOut0_1

/-- INTO THE RING: the launch's pieces — the scratch whole, the cells at zero, the operand whole — are the ring before its first step; -/
theorem ring0_1_in (c : Dev nD) :
    iprop((∃ d, owns (c : Thread nD τ) scM0_1 fullShare d) ∗ (semVal ((c : Thread nD τ), SemLoc.dma 8) 0 ∗ semVal ((c : Thread nD τ), SemLoc.dma 9) 0) ∗ hbPt0 c hbM0_1 (V m c main_arg4))
      ⊢ ringAt0_1 c (V m c main_arg4) 0 := by
  unfold ringAt0_1; rw [if_pos rfl]; unfold Ring.At₀
  rw [Ring.bigSep_fin2]
  simp only [Ring.free, cellP0_1_0, cellP0_1_1]
  iintro ⟨HS, Hc, HW⟩
  iapply Ring.with_homes₀
  icases Hc with ⟨H0, H1⟩
  ihave HS' := (slots0_1_in (F := F) c) $$ HS
  icases HS' with ⟨⟨%d0, HS0⟩, ⟨%d1, HS1⟩⟩
  ihave HW' := (whole0_1_split (F := F) c (V m c main_arg4)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_1_out (c : Dev nD) :
    ringAt0_1 c (V m c main_arg4) 8
      ⊢ iprop((∃ d, owns (c : Thread nD τ) scM0_1 fullShare d) ∗ (semVal ((c : Thread nD τ), SemLoc.dma 8) 0 ∗ semVal ((c : Thread nD τ), SemLoc.dma 9) 0) ∗ hbPt0 c hbM0_1 (V m c main_arg4)) := by
  unfold ringAt0_1; rw [if_neg (by decide)]
  iintro H
  ihave H' := (Ring.free2_of_AtK_last _ _ _ _ _) $$ H
  simp only [Ring.free, cellP0_1_0, cellP0_1_1]
  icases H' with ⟨-, ⟨H0, ⟨%f0, HS0, HW0⟩⟩, ⟨H1, ⟨%f1, HS1, HW1⟩⟩⟩
  isplitl [HS0 HS1]
  · iapply (slots0_1_out (F := F) c); isplitl [HS0]; · iexists f0; iexact HS0
    iexists f1; iexact HS1
  isplitl [H0 H1]
  · isplitl [H0]; · iexact H0
    iexact H1
  · iapply (whole0_1_split (F := F) c (V m c main_arg4)).2; isplitl [HW0]; · iexact HW0
    iexact HW1

/-! ### Ring 1's steps at each case's points, and its canonical names: the body's operands at point `t` are the ring's slots, blocks and cells -/

section Canon0_1
omit [FloatOps F] [Named F]
/-- At the points of case A the ring takes its FIRST step. -/
theorem rstep0_1_A : ∀ t : Fin grid0.N, cond0_0 (grid0.coords t) → cond0_1 (grid0.coords t) → cond0_2 (grid0.coords t) → cond0_3 (grid0.coords t) → ¬cond0_4 (grid0.coords t) → t.val = 0 ∧ (t.val + 1) = 1 := by decide +kernel
/-- At the points of case B the ring takes a step, a block still to start. -/
theorem rstep0_1_B : ∀ t : Fin grid0.N, ¬cond0_0 (grid0.coords t) → cond0_1 (grid0.coords t) → cond0_2 (grid0.coords t) → ¬cond0_3 (grid0.coords t) → cond0_4 (grid0.coords t) → 1 ≤ t.val ∧ t.val + 1 < 8 ∧ (t.val + 1) = t.val + 1 := by decide +kernel
/-- At the points of case C the ring takes its LAST step. -/
theorem rstep0_1_C : ∀ t : Fin grid0.N, ¬cond0_0 (grid0.coords t) → ¬cond0_1 (grid0.coords t) → ¬cond0_2 (grid0.coords t) → ¬cond0_3 (grid0.coords t) → cond0_4 (grid0.coords t) → 1 ≤ t.val ∧ t.val + 1 = 8 ∧ (t.val + 1) = t.val + 1 := by decide +kernel
set_option synthInstance.maxSize 4096 in
theorem coff0_1_1 : ∀ t : Fin grid0.N, cond0_0 (grid0.coords t) → cond0_1 (grid0.coords t) → cond0_2 (grid0.coords t) → cond0_3 (grid0.coords t) → ¬cond0_4 (grid0.coords t) → (![0, 0, 0] : Fin 3 → Nat) = ![(Ring.sl 2 t.val).val, 0, 0] := by decide +kernel
@[sl_canon] theorem canon0_1_1 (t : Fin grid0.N) (h0 : cond0_0 (grid0.coords t)) (h1 : cond0_1 (grid0.coords t)) (h2 : cond0_2 (grid0.coords t)) (h3 : cond0_3 (grid0.coords t)) (h4 : ¬cond0_4 (grid0.coords t)) :
    (scM0_1.slice (Rect.unit (s := S2x512x4096) ![0, 0, 0] S1x512x4096.size inb_S2x512x4096_S1x512x4096_0_0_0) (fun _ => rfl)).squeeze S512x4096 squeezes_S1x512x4096_S512x4096 = rslot0_1 (Ring.sl 2 t.val) :=
  congrArg (fun M : Memref sig .tc .vmem S1x512x4096 .f32 => M.squeeze S512x4096 squeezes_S1x512x4096_S512x4096) (Memref.slice_unit_congr _ (coff0_1_1 t h0 h1 h2 h3 h4) _ _ (fun _ => rfl) (fun _ => rfl))
set_option synthInstance.maxSize 4096 in
theorem coff0_1_2 : ∀ t : Fin grid0.N, cond0_0 (grid0.coords t) → cond0_1 (grid0.coords t) → cond0_2 (grid0.coords t) → cond0_3 (grid0.coords t) → ¬cond0_4 (grid0.coords t) → (![0] : Fin 1 → Nat) = ![(Ring.sl 2 t.val).val] := by decide +kernel
@[sl_canon] theorem canon0_1_2 (t : Fin grid0.N) (h0 : cond0_0 (grid0.coords t)) (h1 : cond0_1 (grid0.coords t)) (h2 : cond0_2 (grid0.coords t)) (h3 : cond0_3 (grid0.coords t)) (h4 : ¬cond0_4 (grid0.coords t)) :
    (cc0_scratch3.slice (Rect.unit (s := S2) ![0] S1.size inb_S2_S1_0)).squeeze S_ squeezes_S1_S_ = cellA0_1 (Ring.sl 2 t.val) :=
  congrArg (fun A : DmaSems sig S1 => A.squeeze S_ squeezes_S1_S_) (SemArray.slice_unit_congr _ (coff0_1_2 t h0 h1 h2 h3 h4) _ _)
set_option synthInstance.maxSize 4096 in
theorem coff0_1_3 : ∀ t : Fin grid0.N, cond0_0 (grid0.coords t) → cond0_1 (grid0.coords t) → cond0_2 (grid0.coords t) → cond0_3 (grid0.coords t) → ¬cond0_4 (grid0.coords t) → (![0, 0] : Fin 2 → Nat) = ![512 * (Ring.bk 8 t.val).val, 0] := by decide +kernel
@[sl_canon] theorem canon0_1_3 (t : Fin grid0.N) (h0 : cond0_0 (grid0.coords t)) (h1 : cond0_1 (grid0.coords t)) (h2 : cond0_2 (grid0.coords t)) (h3 : cond0_3 (grid0.coords t)) (h4 : ¬cond0_4 (grid0.coords t)) :
    hbM0_1.slice (Rect.unit (s := S4096x4096) ![0, 0] S512x4096.size inb_S4096x4096_S512x4096_0_0) (fun _ => rfl) = srcB0_1 (Ring.bk 8 t.val) :=
  congrArg (fun M : Memref sig .tc .hbm S512x4096 .f32 => M) (Memref.slice_unit_congr _ (coff0_1_3 t h0 h1 h2 h3 h4) _ _ (fun _ => rfl) (fun _ => rfl))
set_option synthInstance.maxSize 4096 in
theorem coff0_1_4 : ∀ t : Fin grid0.N, k0_off8 (grid0.coords t) = ![(Ring.sl 2 (t.val + 1)).val, 0, 0] := by decide +kernel
@[sl_canon] theorem canon0_1_4 (t : Fin grid0.N) (h2 : cond0_2 (grid0.coords t)) :
    (scM0_1.slice (Rect.unit (s := S2x512x4096) (k0_off8 (grid0.coords t)) S1x512x4096.size (k0_off8_inb (grid0.coords t) h2)) (fun _ => rfl)).squeeze S512x4096 squeezes_S1x512x4096_S512x4096 = rslot0_1 (Ring.sl 2 (t.val + 1)) :=
  congrArg (fun M : Memref sig .tc .vmem S1x512x4096 .f32 => M.squeeze S512x4096 squeezes_S1x512x4096_S512x4096) (Memref.slice_unit_congr _ (coff0_1_4 t ) _ _ (fun _ => rfl) (fun _ => rfl))
set_option synthInstance.maxSize 4096 in
theorem coff0_1_5 : ∀ t : Fin grid0.N, k0_off7 (grid0.coords t) = ![(Ring.sl 2 (t.val + 1)).val] := by decide +kernel
@[sl_canon] theorem canon0_1_5 (t : Fin grid0.N) (h2 : cond0_2 (grid0.coords t)) :
    (cc0_scratch3.slice (Rect.unit (s := S2) (k0_off7 (grid0.coords t)) S1.size (k0_off7_inb (grid0.coords t) h2))).squeeze S_ squeezes_S1_S_ = cellA0_1 (Ring.sl 2 (t.val + 1)) :=
  congrArg (fun A : DmaSems sig S1 => A.squeeze S_ squeezes_S1_S_) (SemArray.slice_unit_congr _ (coff0_1_5 t ) _ _)
set_option synthInstance.maxSize 4096 in
theorem coff0_1_6 : ∀ t : Fin grid0.N, cond0_0 (grid0.coords t) → cond0_1 (grid0.coords t) → cond0_2 (grid0.coords t) → cond0_3 (grid0.coords t) → ¬cond0_4 (grid0.coords t) → k0_off9 (grid0.coords t) = ![512 * (Ring.bk 8 (t.val + 1)).val, 0] := by decide +kernel
@[sl_canon] theorem canon0_1_6 (t : Fin grid0.N) (h0 : cond0_0 (grid0.coords t)) (h1 : cond0_1 (grid0.coords t)) (h2 : cond0_2 (grid0.coords t)) (h3 : cond0_3 (grid0.coords t)) (h4 : ¬cond0_4 (grid0.coords t)) :
    hbM0_1.slice (Rect.unit (s := S4096x4096) (k0_off9 (grid0.coords t)) S512x4096.size (k0_off9_inb (grid0.coords t) h2)) (fun _ => rfl) = srcB0_1 (Ring.bk 8 (t.val + 1)) :=
  congrArg (fun M : Memref sig .tc .hbm S512x4096 .f32 => M) (Memref.slice_unit_congr _ (coff0_1_6 t h0 h1 h2 h3 h4) _ _ (fun _ => rfl) (fun _ => rfl))
set_option synthInstance.maxSize 4096 in
theorem coff0_1_7 : ∀ t : Fin grid0.N, k0_off10 (grid0.coords t) = ![(Ring.sl 2 t.val).val, 0, 0] := by decide +kernel
@[sl_canon] theorem canon0_1_7 (t : Fin grid0.N) :
    (scM0_1.slice (Rect.unit (s := S2x512x4096) (k0_off10 (grid0.coords t)) S1x512x4096.size (k0_off10_inb (grid0.coords t))) (fun _ => rfl)).squeeze S512x4096 squeezes_S1x512x4096_S512x4096 = rslot0_1 (Ring.sl 2 t.val) :=
  congrArg (fun M : Memref sig .tc .vmem S1x512x4096 .f32 => M.squeeze S512x4096 squeezes_S1x512x4096_S512x4096) (Memref.slice_unit_congr _ (coff0_1_7 t ) _ _ (fun _ => rfl) (fun _ => rfl))
set_option synthInstance.maxSize 4096 in
theorem coff0_1_8 : ∀ t : Fin grid0.N, k0_off4 (grid0.coords t) = ![(Ring.sl 2 t.val).val] := by decide +kernel
@[sl_canon] theorem canon0_1_8 (t : Fin grid0.N) :
    (cc0_scratch3.slice (Rect.unit (s := S2) (k0_off4 (grid0.coords t)) S1.size (k0_off4_inb (grid0.coords t)))).squeeze S_ squeezes_S1_S_ = cellA0_1 (Ring.sl 2 t.val) :=
  congrArg (fun A : DmaSems sig S1 => A.squeeze S_ squeezes_S1_S_) (SemArray.slice_unit_congr _ (coff0_1_8 t ) _ _)
set_option synthInstance.maxSize 4096 in
theorem coff0_1_9 : ∀ t : Fin grid0.N, ¬cond0_0 (grid0.coords t) → cond0_1 (grid0.coords t) → cond0_2 (grid0.coords t) → ¬cond0_3 (grid0.coords t) → cond0_4 (grid0.coords t) → k0_off9 (grid0.coords t) = ![512 * (Ring.bk 8 (t.val + 1)).val, 0] := by decide +kernel
@[sl_canon] theorem canon0_1_9 (t : Fin grid0.N) (h0 : ¬cond0_0 (grid0.coords t)) (h1 : cond0_1 (grid0.coords t)) (h2 : cond0_2 (grid0.coords t)) (h3 : ¬cond0_3 (grid0.coords t)) (h4 : cond0_4 (grid0.coords t)) :
    hbM0_1.slice (Rect.unit (s := S4096x4096) (k0_off9 (grid0.coords t)) S512x4096.size (k0_off9_inb (grid0.coords t) h2)) (fun _ => rfl) = srcB0_1 (Ring.bk 8 (t.val + 1)) :=
  congrArg (fun M : Memref sig .tc .hbm S512x4096 .f32 => M) (Memref.slice_unit_congr _ (coff0_1_9 t h0 h1 h2 h3 h4) _ _ (fun _ => rfl) (fun _ => rfl))
end Canon0_1

end Cert.KernelIdeal.Hand

end
-- ==== Proof.BodyRun.lean ====
/- The idealized kernel's body, run at each of its three kinds of point, with the output's contents named: the first point
   stores its group's contribution, every later point adds its own to what it finds. -/
module

public import Idealize.ShloMosaic.Lib.VecWindow
public import proofs.«01_k».proof.Proof.Rings

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What one point leaves, as functions of its blocks -/

/-- The mask: row `r` may look at column `s` when `s ≤ r` and both lie in one block of four rows. -/
def maskW : IVec S128x128 1 :=
  k0_pay10 (iota .tc S128x128 32 [1] iota_S128x128_d1_w32) k0_pay6 k0_pay7 k0_pay8 k0_pay9 0#32

/-- One group's contribution to the output: `x` the activations, `wk` and `wv` the group's key and value columns, `q` the
    four query heads' columns, `o` the output weights' rows for those heads. -/
def groupOut (x : Vec F S128x4096 .f32) (wk wv : Vec F S4096x128 .f32) (q : Vec F S4096x512 .f32) (o : Vec F S512x4096 .f32) :
    Vec F S128x4096 .f32 :=
  k0_pay1 (k0_pay13 (k0_pay3 x) (k0_pay4 x wk) (k0_pay5 x wv) maskW (View.ld q (Rect.unit (s := S4096x512) ![0, 256] S4096x128.size inb_S4096x512_S4096x128_0_256)))
    (k0_pay14 (k0_pay3 x) (k0_pay4 x wk) (k0_pay5 x wv) maskW (View.ld q (Rect.unit (s := S4096x512) ![0, 384] S4096x128.size inb_S4096x512_S4096x128_0_384)))
    (k0_pay15
      (k0_pay11 (k0_pay3 x) (k0_pay4 x wk) (k0_pay5 x wv) (iota .tc S128x128 32 [1] iota_S128x128_d1_w32) k0_pay6 k0_pay7 k0_pay8 k0_pay9 0#32
        (View.ld q (Rect.unit (s := S4096x512) ![0, 0] S4096x128.size inb_S4096x512_S4096x128_0_0)))
      (k0_pay12 (k0_pay3 x) (k0_pay4 x wk) (k0_pay5 x wv) maskW (View.ld q (Rect.unit (s := S4096x512) ![0, 128] S4096x128.size inb_S4096x512_S4096x128_0_128)))
      (View.ld o (Rect.unit (s := S512x4096) ![0, 0] S128x4096.size inb_S512x4096_S128x4096_0_0))
      (View.ld o (Rect.unit (s := S512x4096) ![128, 0] S128x4096.size inb_S512x4096_S128x4096_128_0)))
    (View.ld o (Rect.unit (s := S512x4096) ![256, 0] S128x4096.size inb_S512x4096_S128x4096_256_0))
    (View.ld o (Rect.unit (s := S512x4096) ![384, 0] S128x4096.size inb_S512x4096_S128x4096_384_0))

/-- Block `b` of the query weights (their columns `512 b` to `512 b + 511`), read off the array. -/
def blkQ (c : Dev nD) (fh0 : HbBuf0 (F := F) c hbM0_0) (b : Fin 8) : Vec F S4096x512 .f32 := (srcB0_0 b).view.read (Elt F) fh0
/-- Block `b` of the output weights (their rows `512 b` to `512 b + 511`), read off the array. -/
def blkO (c : Dev nD) (fh1 : HbBuf0 (F := F) c hbM0_1) (b : Fin 8) : Vec F S512x4096 .f32 := (srcB0_1 b).view.read (Elt F) fh1

/-- The output after the first point. -/
def outFirst (c : Dev nD) (k : ℕ) (x0 : Vec F S128x4096 .f32) (x1 x2 : Vec F S4096x128 .f32) (fh0 : HbBuf0 (F := F) c hbM0_0) (fh1 : HbBuf0 (F := F) c hbM0_1) :
    Vec F S128x4096 .f32 :=
  groupOut x0 x1 x2 (blkQ c fh0 (Ring.bk 8 k)) (blkO c fh1 (Ring.bk 8 k))
/-- The output after a later point, which found `xo` there. -/
def outNext (c : Dev nD) (k : ℕ) (x0 : Vec F S128x4096 .f32) (x1 x2 : Vec F S4096x128 .f32) (xo : Vec F S128x4096 .f32)
    (fh0 : HbBuf0 (F := F) c hbM0_0) (fh1 : HbBuf0 (F := F) c hbM0_1) : Vec F S128x4096 .f32 :=
  addf (shapeCast S128x4096 xo shapeCasts_S128x4096_S128x4096) (outFirst c k x0 x1 x2 fh0 fh1)

/-- A load at a rectangle of what one transfer of the whole buffer left reads the transferred values there. -/
theorem readCov_landed {sp : Space} {S : Shape} {e : EltTy} (v : View sig .tc sp S e) (x : S.Idx → Elt F e) (r : Rect S) :
    v.readCov [(⟨Rect.whole S, x⟩ : View.Piece (Elt F) S e)] r.toLoadRect = View.ld x r :=
  (View.readAt_eq_ld v _ r).trans (congrArg (fun X => View.ld X r) (View.read_writes_whole v _ x))

/-- A transfer that keeps the element type moves the values as they are. -/
theorem same_apply {S : Shape} {e : EltTy} (x : S.Idx → Elt F e) : (ReadAs.same (Val := Elt F) (s := S) (e := e)).apply x = x := rfl

-- (the run's proof term is large: checking it walks past the default budget)
set_option maxHeartbeats 1000000 in
/-- The body at the first point: from the inputs at their blocks, both rings free and the output at anything, to the
    output at the first point's contribution, the first block of each ring landed and the second in flight. -/
theorem bodyRun_A (c : Dev nD) (t : Fin cfg0.N) (arg1 : Memref sig .tc .vmem S128x4096 .f32) (harg1 : arg1.IsWhole) (arg2 : Memref sig .tc .vmem S4096x128 .f32) (harg2 : arg2.IsWhole) (arg3 : Memref sig .tc .vmem S4096x128 .f32) (harg3 : arg3.IsWhole) (arg6 : Memref sig .tc .vmem S128x4096 .f32) (harg6 : arg6.IsWhole) (hc0 : cond0_0 (grid0.coords t)) (hc1 : cond0_1 (grid0.coords t)) (hc2 : cond0_2 (grid0.coords t)) (hc3 : cond0_3 (grid0.coords t)) (hc4 : ¬cond0_4 (grid0.coords t))
    (x0 : Vec F S128x4096 .f32) (x1 : Vec F S4096x128 .f32) (x2 : Vec F S4096x128 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg6 fullShare d) ∗ Ring.free (cellP0_0 c) (slotW0_0 c fh0) (Ring.sl 2 t.val) ∗ Ring.free (cellP0_0 c) (slotW0_0 c fh0) (Ring.sl 2 (t.val + 1)) ∗ Ring.free (cellP0_1 c) (slotW0_1 c fh1) (Ring.sl 2 t.val) ∗ Ring.free (cellP0_1 c) (slotW0_1 c fh1) (Ring.sl 2 (t.val + 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare (outFirst c t.val x0 x1 x2 fh0 fh1) ∗ Ring.inflight (flightW0_0 c fh0) (Ring.sl 2 (t.val + 1)) (Ring.bk 8 (t.val + 1)) ∗ Ring.kept (cellP0_0 c) (slotW0_0 c fh0) (landed0_0 c fh0) (Ring.sl 2 t.val) (Ring.bk 8 t.val) ∗ Ring.inflight (flightW0_1 c fh1) (Ring.sl 2 (t.val + 1)) (Ring.bk 8 (t.val + 1)) ∗ Ring.kept (cellP0_1 c) (slotW0_1 c fh1) (landed0_1 c fh1) (Ring.sl 2 t.val) (Ring.bk 8 t.val) ∗ (∃ W', owes (c : Thread nD τ) 0 W')) -∗ K ⟨⟩))
          ⊢ wp frame (wpE (defs₀ (F := F)) Variants.none c none) Set.univ (cc0__attn_group_kernel (grid0.coords t) arg1 harg1 arg2 harg2 arg3 harg3 (Memref.whole main_arg1) (Memref.isWhole_whole _) (Memref.whole main_arg4) (Memref.isWhole_whole _) arg6 harg6 scM0_0 (Memref.isWhole_whole _) scM0_1 (Memref.isWhole_whole _) cc0_scratch2 cc0_scratch3) K := by
    intro W K
    haveI : Fact (cond0_0 (grid0.coords t)) := ⟨hc0⟩
    haveI : Fact (cond0_1 (grid0.coords t)) := ⟨hc1⟩
    haveI : Fact (cond0_2 (grid0.coords t)) := ⟨hc2⟩
    haveI : Fact (cond0_3 (grid0.coords t)) := ⟨hc3⟩
    haveI : Fact (¬cond0_4 (grid0.coords t)) := ⟨hc4⟩
    simp only [cc0__attn_group_kernel_eq_skeleton]; unfold cc0__attn_group_kernel_skel
    simp only [k0_part1_eq_skeleton, k0_part2_eq_skeleton, k0_part3_eq_skeleton, k0_part4_eq_skeleton]
    have hcanon0 := canon0_0_1 t hc0 hc1 hc2 hc3 hc4
    have hcanon1 := canon0_0_2 t hc0 hc1 hc2 hc3 hc4
    have hcanon2 := canon0_0_3 t hc0 hc1 hc2 hc3 hc4
    have hcanon3 := canon0_0_7 t
    have hcanon4 := canon0_1_1 t hc0 hc1 hc2 hc3 hc4
    have hcanon5 := canon0_1_2 t hc0 hc1 hc2 hc3 hc4
    have hcanon6 := canon0_1_3 t hc0 hc1 hc2 hc3 hc4
    have hcanon7 := canon0_1_7 t
    unfold owns Ring.free Ring.inflight Ring.kept
    iintro ⟨⟨%f0, %hf0, H0⟩, ⟨%f1, %hf1, H1⟩, ⟨%f2, %hf2, H2⟩, ⟨%d3, %f3, -, H3⟩, ⟨Hc0_0_0, ⟨%fs0_0_0, Hs0_0_0, Hw0_0_0⟩⟩, ⟨Hc0_0_1, ⟨%fs0_0_1, Hs0_0_1, Hw0_0_1⟩⟩, ⟨Hc0_1_0, ⟨%fs0_1_0, Hs0_1_0, Hw0_1_0⟩⟩, ⟨Hc0_1_1, ⟨%fs0_1_1, Hs0_1_1, Hw0_1_1⟩⟩, HW, Hk⟩
    ihave Hsp0_0_0 := (src0_0_split c fh0 (Ring.sl 2 t.val) (Ring.bk 8 t.val)).1 $$ Hw0_0_0
    icases Hsp0_0_0 with ⟨Hh0_0_0, Hr0_0_0⟩
    ihave Hsp0_0_1 := (src0_0_split c fh0 (Ring.sl 2 (t.val + 1)) (Ring.bk 8 (t.val + 1))).1 $$ Hw0_0_1
    icases Hsp0_0_1 with ⟨Hh0_0_1, Hr0_0_1⟩
    ihave Hsp0_1_0 := (src0_1_split c fh1 (Ring.sl 2 t.val) (Ring.bk 8 t.val)).1 $$ Hw0_1_0
    icases Hsp0_1_0 with ⟨Hh0_1_0, Hr0_1_0⟩
    ihave Hsp0_1_1 := (src0_1_split c fh1 (Ring.sl 2 (t.val + 1)) (Ring.bk 8 (t.val + 1))).1 $$ Hw0_1_1
    icases Hsp0_1_1 with ⟨Hh0_1_1, Hr0_1_1⟩
    obtain rfl := harg1.eq_unread hf0; obtain rfl := harg2.eq_unread hf1; obtain rfl := harg3.eq_unread hf2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [View.read_writes_full]
      have e1 : View.readAt (Elt F) arg1.view (Rect.unit (s := S128x4096) ![0, 0] ![128, 4096] inb_S128x4096_S128x4096_0_0).toLoadRect (harg1.unread x0) = x0 :=
        (View.readAt_full arg1.view _ inb_S128x4096_S128x4096_0_0).trans (harg1.read_unread x0)
      have e2 : View.readAt (Elt F) arg2.view (Rect.unit (s := S4096x128) ![0, 0] ![4096, 128] inb_S4096x128_S4096x128_0_0).toLoadRect (harg2.unread x1) = x1 :=
        (View.readAt_full arg2.view _ inb_S4096x128_S4096x128_0_0).trans (harg2.read_unread x1)
      have e3 : View.readAt (Elt F) arg3.view (Rect.unit (s := S4096x128) ![0, 0] ![4096, 128] inb_S4096x128_S4096x128_0_0).toLoadRect (harg3.unread x2) = x2 :=
        (View.readAt_full arg3.view _ inb_S4096x128_S4096x128_0_0).trans (harg3.read_unread x2)
      delta bodyRun_A.sl.r_8; delta bodyRun_A.sl.r_7; delta bodyRun_A.sl.r_6; delta bodyRun_A.sl.r_5; delta bodyRun_A.sl.r_4; delta bodyRun_A.sl.r_3; delta bodyRun_A.sl.r_2; delta bodyRun_A.sl.r_1; delta bodyRun_A.sl.r; delta bodyRun_A.sl.v16; delta bodyRun_A.sl.v54; delta bodyRun_A.sl.v73; delta bodyRun_A.sl.v92; delta bodyRun_A.sl.v111; delta bodyRun_A.sl.v139; delta bodyRun_A.sl.v143; delta bodyRun_A.sl.v148; delta bodyRun_A.sl.v153
      simp only [e1, e2, e3, readCov_landed, same_apply]
      unfold outFirst groupOut blkQ blkO maskW
      rfl
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 8 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 2 t.val) (Ring.bk 8 t.val)).2; isplitl [Hh0_1_0]; · iexact Hh0_1_0
      iexact Hr0_1_0
    iexists _; iexact HW

-- (the run's proof term is large: checking it walks past the default budget)
set_option maxHeartbeats 1000000 in
/-- The body at a middle point: the output goes from `xo` to `xo` plus the point's contribution; each ring's block in
    flight lands and the next starts. -/
theorem bodyRun_B (c : Dev nD) (t : Fin cfg0.N) (arg1 : Memref sig .tc .vmem S128x4096 .f32) (harg1 : arg1.IsWhole) (arg2 : Memref sig .tc .vmem S4096x128 .f32) (harg2 : arg2.IsWhole) (arg3 : Memref sig .tc .vmem S4096x128 .f32) (harg3 : arg3.IsWhole) (arg6 : Memref sig .tc .vmem S128x4096 .f32) (harg6 : arg6.IsWhole) (hc0 : ¬cond0_0 (grid0.coords t)) (hc1 : cond0_1 (grid0.coords t)) (hc2 : cond0_2 (grid0.coords t)) (hc3 : ¬cond0_3 (grid0.coords t)) (hc4 : cond0_4 (grid0.coords t))
    (x0 : Vec F S128x4096 .f32) (x1 : Vec F S4096x128 .f32) (x2 : Vec F S4096x128 .f32) (xo : Vec F S128x4096 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare xo ∗ Ring.inflight (flightW0_0 c fh0) (Ring.sl 2 t.val) (Ring.bk 8 t.val) ∗ Ring.kept (cellP0_0 c) (slotW0_0 c fh0) (landed0_0 c fh0) (Ring.sl 2 (t.val + 1)) (Ring.bk 8 (t.val - 1)) ∗ Ring.inflight (flightW0_1 c fh1) (Ring.sl 2 t.val) (Ring.bk 8 t.val) ∗ Ring.kept (cellP0_1 c) (slotW0_1 c fh1) (landed0_1 c fh1) (Ring.sl 2 (t.val + 1)) (Ring.bk 8 (t.val - 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare (outNext c t.val x0 x1 x2 xo fh0 fh1) ∗ Ring.inflight (flightW0_0 c fh0) (Ring.sl 2 (t.val + 1)) (Ring.bk 8 (t.val + 1)) ∗ Ring.kept (cellP0_0 c) (slotW0_0 c fh0) (landed0_0 c fh0) (Ring.sl 2 t.val) (Ring.bk 8 t.val) ∗ Ring.inflight (flightW0_1 c fh1) (Ring.sl 2 (t.val + 1)) (Ring.bk 8 (t.val + 1)) ∗ Ring.kept (cellP0_1 c) (slotW0_1 c fh1) (landed0_1 c fh1) (Ring.sl 2 t.val) (Ring.bk 8 t.val) ∗ (∃ W', owes (c : Thread nD τ) 0 W')) -∗ K ⟨⟩))
          ⊢ wp frame (wpE (defs₀ (F := F)) Variants.none c none) Set.univ (cc0__attn_group_kernel (grid0.coords t) arg1 harg1 arg2 harg2 arg3 harg3 (Memref.whole main_arg1) (Memref.isWhole_whole _) (Memref.whole main_arg4) (Memref.isWhole_whole _) arg6 harg6 scM0_0 (Memref.isWhole_whole _) scM0_1 (Memref.isWhole_whole _) cc0_scratch2 cc0_scratch3) K := by
    intro W K
    haveI : Fact (¬cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    haveI : Fact (cond0_4 (grid0.coords t)) := ⟨hc4⟩
    simp only [cc0__attn_group_kernel_eq_skeleton]; unfold cc0__attn_group_kernel_skel
    simp only [k0_part1_eq_skeleton, k0_part2_eq_skeleton, k0_part3_eq_skeleton, k0_part4_eq_skeleton]
    have hcanon0 := canon0_0_7 t
    have hcanon1 := canon0_1_7 t
    unfold owns Ring.inflight Ring.kept
    iintro ⟨⟨%f0, %hf0, H0⟩, ⟨%f1, %hf1, H1⟩, ⟨%f2, %hf2, H2⟩, ⟨%f3, %hf3, H3⟩, ⟨%ff0_0, Hf0_0, Hrf0_0⟩, ⟨Hc0_0_1, ⟨%fs0_0_1, Hs0_0_1, Hw0_0_1⟩⟩, ⟨%ff0_1, Hf0_1, Hrf0_1⟩, ⟨Hc0_1_1, ⟨%fs0_1_1, Hs0_1_1, Hw0_1_1⟩⟩, HW, Hk⟩
    ihave Hsp0_0_1 := (src0_0_split c fh0 (Ring.sl 2 (t.val + 1)) (Ring.bk 8 (t.val + 1))).1 $$ Hw0_0_1
    icases Hsp0_0_1 with ⟨Hh0_0_1, Hr0_0_1⟩
    ihave Hsp0_1_1 := (src0_1_split c fh1 (Ring.sl 2 (t.val + 1)) (Ring.bk 8 (t.val + 1))).1 $$ Hw0_1_1
    icases Hsp0_1_1 with ⟨Hh0_1_1, Hr0_1_1⟩
    obtain rfl := harg1.eq_unread hf0; obtain rfl := harg2.eq_unread hf1; obtain rfl := harg3.eq_unread hf2; obtain rfl := harg6.eq_unread hf3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [View.read_writes_full]
      have e1 : View.readAt (Elt F) arg1.view (Rect.unit (s := S128x4096) ![0, 0] ![128, 4096] inb_S128x4096_S128x4096_0_0).toLoadRect (harg1.unread x0) = x0 :=
        (View.readAt_full arg1.view _ inb_S128x4096_S128x4096_0_0).trans (harg1.read_unread x0)
      have e2 : View.readAt (Elt F) arg2.view (Rect.unit (s := S4096x128) ![0, 0] ![4096, 128] inb_S4096x128_S4096x128_0_0).toLoadRect (harg2.unread x1) = x1 :=
        (View.readAt_full arg2.view _ inb_S4096x128_S4096x128_0_0).trans (harg2.read_unread x1)
      have e3 : View.readAt (Elt F) arg3.view (Rect.unit (s := S4096x128) ![0, 0] ![4096, 128] inb_S4096x128_S4096x128_0_0).toLoadRect (harg3.unread x2) = x2 :=
        (View.readAt_full arg3.view _ inb_S4096x128_S4096x128_0_0).trans (harg3.read_unread x2)
      have e6 : View.readAt (Elt F) arg6.view (Rect.unit (s := S128x4096) ![0, 0] ![128, 4096] inb_S128x4096_S128x4096_0_0).toLoadRect (harg6.unread xo) = xo :=
        (View.readAt_full arg6.view _ inb_S128x4096_S128x4096_0_0).trans (harg6.read_unread xo)
      delta bodyRun_B.sl.r_8; delta bodyRun_B.sl.r_7; delta bodyRun_B.sl.r_6; delta bodyRun_B.sl.r_5; delta bodyRun_B.sl.r_4; delta bodyRun_B.sl.r_3; delta bodyRun_B.sl.r_2; delta bodyRun_B.sl.r_1; delta bodyRun_B.sl.r; delta bodyRun_B.sl.v16; delta bodyRun_B.sl.v54; delta bodyRun_B.sl.v73; delta bodyRun_B.sl.v92; delta bodyRun_B.sl.v111; delta bodyRun_B.sl.v139; delta bodyRun_B.sl.v143; delta bodyRun_B.sl.v148; delta bodyRun_B.sl.v153
      simp only [e1, e2, e3, e6, readCov_landed, same_apply]
      unfold outNext outFirst groupOut blkQ blkO maskW
      rfl
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 8 t.val)).2; isplitl [Hf0_0_src]; · iexact Hf0_0_src
      iexact Hrf0_0
    isplitl [Hc0_1_1 Hr0_1_1]
    · iexists _; isplitl [Hc0_1_1]; · iexact Hc0_1_1
      iexact Hr0_1_1
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 8 t.val)).2; isplitl [Hf0_1_src]; · iexact Hf0_1_src
      iexact Hrf0_1
    iexists _; iexact HW

-- (the run's proof term is large: checking it walks past the default budget)
set_option maxHeartbeats 1000000 in
/-- The body at the last point: the output goes from `xo` to `xo` plus the point's contribution; each ring's last block
    lands. -/
theorem bodyRun_C (c : Dev nD) (t : Fin cfg0.N) (arg1 : Memref sig .tc .vmem S128x4096 .f32) (harg1 : arg1.IsWhole) (arg2 : Memref sig .tc .vmem S4096x128 .f32) (harg2 : arg2.IsWhole) (arg3 : Memref sig .tc .vmem S4096x128 .f32) (harg3 : arg3.IsWhole) (arg6 : Memref sig .tc .vmem S128x4096 .f32) (harg6 : arg6.IsWhole) (hc0 : ¬cond0_0 (grid0.coords t)) (hc1 : ¬cond0_1 (grid0.coords t)) (hc2 : ¬cond0_2 (grid0.coords t)) (hc3 : ¬cond0_3 (grid0.coords t)) (hc4 : cond0_4 (grid0.coords t))
    (x0 : Vec F S128x4096 .f32) (x1 : Vec F S4096x128 .f32) (x2 : Vec F S4096x128 .f32) (xo : Vec F S128x4096 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare xo ∗ Ring.inflight (flightW0_0 c fh0) (Ring.sl 2 t.val) (Ring.bk 8 t.val) ∗ Ring.inflight (flightW0_1 c fh1) (Ring.sl 2 t.val) (Ring.bk 8 t.val) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare (outNext c t.val x0 x1 x2 xo fh0 fh1) ∗ Ring.kept (cellP0_0 c) (slotW0_0 c fh0) (landed0_0 c fh0) (Ring.sl 2 t.val) (Ring.bk 8 t.val) ∗ Ring.kept (cellP0_1 c) (slotW0_1 c fh1) (landed0_1 c fh1) (Ring.sl 2 t.val) (Ring.bk 8 t.val) ∗ (∃ W', owes (c : Thread nD τ) 0 W')) -∗ K ⟨⟩))
          ⊢ wp frame (wpE (defs₀ (F := F)) Variants.none c none) Set.univ (cc0__attn_group_kernel (grid0.coords t) arg1 harg1 arg2 harg2 arg3 harg3 (Memref.whole main_arg1) (Memref.isWhole_whole _) (Memref.whole main_arg4) (Memref.isWhole_whole _) arg6 harg6 scM0_0 (Memref.isWhole_whole _) scM0_1 (Memref.isWhole_whole _) cc0_scratch2 cc0_scratch3) K := by
    intro W K
    haveI : Fact (¬cond0_0 (grid0.coords t)) := ⟨hc0⟩
    haveI : Fact (¬cond0_1 (grid0.coords t)) := ⟨hc1⟩
    haveI : Fact (¬cond0_2 (grid0.coords t)) := ⟨hc2⟩
    haveI : Fact (¬cond0_3 (grid0.coords t)) := ⟨hc3⟩
    haveI : Fact (cond0_4 (grid0.coords t)) := ⟨hc4⟩
    simp only [cc0__attn_group_kernel_eq_skeleton]; unfold cc0__attn_group_kernel_skel
    simp only [k0_part1_eq_skeleton, k0_part2_eq_skeleton, k0_part3_eq_skeleton, k0_part4_eq_skeleton]
    have hcanon0 := canon0_0_7 t
    have hcanon1 := canon0_1_7 t
    unfold owns Ring.inflight Ring.kept
    iintro ⟨⟨%f0, %hf0, H0⟩, ⟨%f1, %hf1, H1⟩, ⟨%f2, %hf2, H2⟩, ⟨%f3, %hf3, H3⟩, ⟨%ff0_0, Hf0_0, Hrf0_0⟩, ⟨%ff0_1, Hf0_1, Hrf0_1⟩, HW, Hk⟩
    obtain rfl := harg1.eq_unread hf0; obtain rfl := harg2.eq_unread hf1; obtain rfl := harg3.eq_unread hf2; obtain rfl := harg6.eq_unread hf3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [View.read_writes_full]
      have e1 : View.readAt (Elt F) arg1.view (Rect.unit (s := S128x4096) ![0, 0] ![128, 4096] inb_S128x4096_S128x4096_0_0).toLoadRect (harg1.unread x0) = x0 :=
        (View.readAt_full arg1.view _ inb_S128x4096_S128x4096_0_0).trans (harg1.read_unread x0)
      have e2 : View.readAt (Elt F) arg2.view (Rect.unit (s := S4096x128) ![0, 0] ![4096, 128] inb_S4096x128_S4096x128_0_0).toLoadRect (harg2.unread x1) = x1 :=
        (View.readAt_full arg2.view _ inb_S4096x128_S4096x128_0_0).trans (harg2.read_unread x1)
      have e3 : View.readAt (Elt F) arg3.view (Rect.unit (s := S4096x128) ![0, 0] ![4096, 128] inb_S4096x128_S4096x128_0_0).toLoadRect (harg3.unread x2) = x2 :=
        (View.readAt_full arg3.view _ inb_S4096x128_S4096x128_0_0).trans (harg3.read_unread x2)
      have e6 : View.readAt (Elt F) arg6.view (Rect.unit (s := S128x4096) ![0, 0] ![128, 4096] inb_S128x4096_S128x4096_0_0).toLoadRect (harg6.unread xo) = xo :=
        (View.readAt_full arg6.view _ inb_S128x4096_S128x4096_0_0).trans (harg6.read_unread xo)
      delta bodyRun_C.sl.r_8; delta bodyRun_C.sl.r_7; delta bodyRun_C.sl.r_6; delta bodyRun_C.sl.r_5; delta bodyRun_C.sl.r_4; delta bodyRun_C.sl.r_3; delta bodyRun_C.sl.r_2; delta bodyRun_C.sl.r_1; delta bodyRun_C.sl.r; delta bodyRun_C.sl.v16; delta bodyRun_C.sl.v54; delta bodyRun_C.sl.v73; delta bodyRun_C.sl.v92; delta bodyRun_C.sl.v111; delta bodyRun_C.sl.v139; delta bodyRun_C.sl.v143; delta bodyRun_C.sl.v148; delta bodyRun_C.sl.v153
      simp only [e1, e2, e3, e6, readCov_landed, same_apply]
      unfold outNext outFirst groupOut blkQ blkO maskW
      rfl
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 8 t.val)).2; isplitl [Hf0_0_src]; · iexact Hf0_0_src
      iexact Hrf0_0
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 8 t.val)).2; isplitl [Hf0_1_src]; · iexact Hf0_1_src
      iexact Hrf0_1
    iexists _; iexact HW

end Cert.KernelIdeal.Hand

end
-- ==== Proof.Frame.lean ====
/- The idealized kernel's run with its output named: the proof data whose output window holds, after each point, the sum of
   the groups' contributions so far; the body obligation, from the three runs of the body; and the run of the whole program,
   which leaves the result of the host's last lines on the array so written, every counter at zero and the arguments as they
   were. -/
module

public import proofs.«01_k».proof.Proof.BodyRun
public import Idealize.ShloMosaic.Lib.Claim

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The region invariant before point `k`: the generator register at some state, and each ring
    before point `k`. -/
def PhiR (c : Dev nD) (k : ℕ) : sProp 𝕄 := iprop((∃ r, prngReg c r) ∗ ringAt0_0 c (V m c main_arg1) k ∗ ringAt0_1 c (V m c main_arg4) k)

/-- The output window after point `n`: the first point's contribution, then each later point's added. -/
def accum (c : Dev nD) : (n : ℕ) → n < cfg0.N → Vec F S128x4096 .f32
  | 0, h => outFirst c 0 (iblk m c 0 ⟨0, h⟩) (iblk m c 1 ⟨0, h⟩) (iblk m c 2 ⟨0, h⟩) (V m c main_arg1) (V m c main_arg4)
  | n + 1, h => outNext c (n + 1) (iblk m c 0 ⟨n + 1, h⟩) (iblk m c 1 ⟨n + 1, h⟩) (iblk m c 2 ⟨n + 1, h⟩)
      (accum c n (Nat.lt_of_succ_lt h)) (V m c main_arg1) (V m c main_arg4)

/-- At the first point. -/
theorem accum_first (c : Dev nD) (t : Fin cfg0.N) (ht : t.val = 0) : accum m c t.val t.isLt =
    outFirst c t.val (iblk m c 0 t) (iblk m c 1 t) (iblk m c 2 t) (V m c main_arg1) (V m c main_arg4) := by
  obtain ⟨n, h⟩ := t
  match n, h, ht with
  | 0, _, _ => rfl

/-- At a later point. -/
theorem accum_next (c : Dev nD) (t : Fin cfg0.N) (ht : t.val ≠ 0) : accum m c t.val t.isLt =
    outNext c t.val (iblk m c 0 t) (iblk m c 1 t) (iblk m c 2 t)
      (accum m c (t.val - 1) (Nat.lt_of_le_of_lt (Nat.sub_le _ _) t.isLt)) (V m c main_arg1) (V m c main_arg4) := by
  obtain ⟨n, h⟩ := t
  match n, h, ht with
  | n + 1, _, _ => rfl

/-- The output is stored at every point. -/
theorem live3 : ∀ i : grid0.Coords, cfg0.idle 3 i = false := fun i => by
  show (!(k0_cond4 i == 1#1) && !(k0_cond5 i == 1#1)) = false
  unfold k0_cond4 k0_cond5
  generalize i 0 = v
  revert v
  decide

/-- The proof data: the arrays as the region finds them; after the body at point `t` each input's buffer at its block and
    the output at the sum so far; the invariant is both rings before the point, beside the generator register; nothing
    owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accum m c t.val t.isLt
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accum m c t.val t.isLt := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The output's buffer holds, at a later point, what the point before left: it is not written back in between. -/
theorem before0_3 (c : Dev nD) (t : Fin cfg0.N) (ht : t.val ≠ 0) (d) : (dats m 0 c).before 3 t d =
    accum m c (t.val - 1) (Nat.lt_of_le_of_lt (Nat.sub_le _ _) t.isLt) :=
  ((dats m 0 c).before_out_kept 3 rfl t ht (by
    have hN : t.val < 8 := lt_of_lt_of_eq t.isLt (show cfg0.N = 8 from N_0)
    refine Bool.eq_false_iff.mpr fun h => ?_
    have h2 := (flush0_3 _).mp h
    dsimp only at h2
    omega) live3 (fun _ _ => rfl) d).trans (after0_3 m c _)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1200000 in
/-- The body at any point: the inputs hold their blocks and, from the second point on, the output the sum so far; the closed
    forms of the conditions say which of the three kinds the point is, and that kind's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1
  have hgN : grid0.N = 8 := N_0
  have hN : t.val < 8 := lt_of_lt_of_eq t.isLt (show cfg0.N = 8 from N_0)
  by_cases h0 : t.val % 8 = 0
  · by_cases h1 : t.val < 7
    · by_cases h2 : t.val < 7
      · by_cases h3 : t.val % 8 = 0
        · by_cases h4 : 1 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [live3 (grid0.coords t)], after0_3, accum_first m c t (by omega)]
            have hr0 := rstep0_0_A t ((hcond0_0 t).mpr h0) ((hcond0_1 t).mpr h1) ((hcond0_2 t).mpr h2) ((hcond0_3 t).mpr h3) (fun h => h4 ((hcond0_4 t).mp h))
            obtain ⟨hK00, hK10⟩ := hr0
            rw [if_pos hK00, if_neg (show ¬t.val + 1 = 0 by omega)]
            rw [Ring.At₀_eq2' _ _ _ t.val hK00 (by decide : 2 ≤ 8), Ring.AtK2_one' _ _ _ _ _ t.val hK00 (by decide : 1 < 8)]
            have hr1 := rstep0_1_A t ((hcond0_0 t).mpr h0) ((hcond0_1 t).mpr h1) ((hcond0_2 t).mpr h2) ((hcond0_3 t).mpr h3) (fun h => h4 ((hcond0_4 t).mp h))
            obtain ⟨hK01, hK11⟩ := hr1
            rw [if_pos hK01, if_neg (show ¬t.val + 1 = 0 by omega)]
            rw [Ring.At₀_eq2' _ _ _ t.val hK01 (by decide : 2 ≤ 8), Ring.AtK2_one' _ _ _ _ _ t.val hK01 (by decide : 1 < 8)]
            iintro ⟨⟨Hg, ⟨-, Hfr0_0_0, Hfr0_0_1⟩, ⟨-, Hfr0_1_0, Hfr0_1_1⟩⟩, ⟨%W, -, HW⟩, ⟨%d0, H0⟩, ⟨%d1, H1⟩, ⟨%d2, H2⟩, ⟨%d3, H3⟩⟩
            iapply ((bodyRun_A c t _ (hs0_0 t) _ (hs0_1 t) _ (hs0_2 t) _ (hs0_3 t) ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (V m c main_arg1) (V m c main_arg4)) W _)
            isplitl [H0]; · iexact H0
            isplitl [H1]; · iexact H1
            isplitl [H2]; · iexact H2
            isplitl [H3]; · iexists _; iexact H3
            isplitl [Hfr0_0_0]; · iexact Hfr0_0_0
            isplitl [Hfr0_0_1]; · iexact Hfr0_0_1
            isplitl [Hfr0_1_0]; · iexact Hfr0_1_0
            isplitl [Hfr0_1_1]; · iexact Hfr0_1_1
            isplitl [HW]; · iexact HW
            iintro ⟨H0, H1, H2, H3, Hfl0_0', Hkp0_0', Hfl0_1', Hkp0_1', ⟨%W', HW'⟩⟩
            isplitl [Hg Hfl0_0' Hkp0_0' Hfl0_1' Hkp0_1']
            · isplitl [Hg]; · iexact Hg
              isplitl [Hfl0_0' Hkp0_0']
              · iapply Ring.with_homes₀
                isplitl [Hfl0_0']; · iexact Hfl0_0'
                iexact Hkp0_0'
              iapply Ring.with_homes₀
              isplitl [Hfl0_1']; · iexact Hfl0_1'
              iexact Hkp0_1'
            isplitl [HW']
            · iexists W'; isplitr; · ipureintro; exact fun _ _ => Or.inl trivial
              iexact HW'
            isplitl [H0]; · iexact H0
            isplitl [H1]; · iexact H1
            isplitl [H2]; · iexact H2
            iexact H3
        · exfalso; omega
      · exfalso; omega
    · exfalso; omega
  · by_cases h1 : t.val < 7
    · by_cases h2 : t.val < 7
      · by_cases h3 : t.val % 8 = 0
        · exfalso; omega
        · by_cases h4 : 1 ≤ t.val
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [live3 (grid0.coords t)], after0_3, accum_next m c t (by omega)]
            simp only [before0_3 m c t (by omega)]
            have hr0 := rstep0_0_B t (fun h => h0 ((hcond0_0 t).mp h)) ((hcond0_1 t).mpr h1) ((hcond0_2 t).mpr h2) (fun h => h3 ((hcond0_3 t).mp h)) ((hcond0_4 t).mpr h4)
            obtain ⟨hK10, hKB0, hKs0⟩ := hr0
            rw [if_neg (show ¬t.val = 0 by omega), if_neg (show ¬t.val + 1 = 0 by omega)]
            rw [Ring.AtK2_here _ _ _ _ _ t.val hK10 hKB0, Ring.AtK2_next _ _ _ _ _ t.val hK10 hKB0]
            have hr1 := rstep0_1_B t (fun h => h0 ((hcond0_0 t).mp h)) ((hcond0_1 t).mpr h1) ((hcond0_2 t).mpr h2) (fun h => h3 ((hcond0_3 t).mp h)) ((hcond0_4 t).mpr h4)
            obtain ⟨hK11, hKB1, hKs1⟩ := hr1
            rw [if_neg (show ¬t.val = 0 by omega), if_neg (show ¬t.val + 1 = 0 by omega)]
            rw [Ring.AtK2_here _ _ _ _ _ t.val hK11 hKB1, Ring.AtK2_next _ _ _ _ _ t.val hK11 hKB1]
            iintro ⟨⟨Hg, ⟨-, Hfl0_0, Hkp0_0⟩, ⟨-, Hfl0_1, Hkp0_1⟩⟩, ⟨%W, -, HW⟩, ⟨%d0, H0⟩, ⟨%d1, H1⟩, ⟨%d2, H2⟩, ⟨%d3, H3⟩⟩
            iapply ((bodyRun_B c t _ (hs0_0 t) _ (hs0_1 t) _ (hs0_2 t) _ (hs0_3 t) (fun h => h0 ((hcond0_0 t).mp h)) ((hcond0_1 t).mpr h1) ((hcond0_2 t).mpr h2) (fun h => h3 ((hcond0_3 t).mp h)) ((hcond0_4 t).mpr h4) (iblk m c 0 t) (iblk m c 1 t) (iblk m c 2 t) _ (V m c main_arg1) (V m c main_arg4)) W _)
            isplitl [H0]; · iexact H0
            isplitl [H1]; · iexact H1
            isplitl [H2]; · iexact H2
            isplitl [H3]; · iexact H3
            isplitl [Hfl0_0]; · iexact Hfl0_0
            isplitl [Hkp0_0]; · iexact Hkp0_0
            isplitl [Hfl0_1]; · iexact Hfl0_1
            isplitl [Hkp0_1]; · iexact Hkp0_1
            isplitl [HW]; · iexact HW
            iintro ⟨H0, H1, H2, H3, Hfl0_0', Hkp0_0', Hfl0_1', Hkp0_1', ⟨%W', HW'⟩⟩
            isplitl [Hg Hfl0_0' Hkp0_0' Hfl0_1' Hkp0_1']
            · isplitl [Hg]; · iexact Hg
              isplitl [Hfl0_0' Hkp0_0']
              · iapply (Ring.with_homes (Idealize.SL.BI.Entails.refl _))
                isplitl [Hfl0_0']; · iexact Hfl0_0'
                iexact Hkp0_0'
              iapply (Ring.with_homes (Idealize.SL.BI.Entails.refl _))
              isplitl [Hfl0_1']; · iexact Hfl0_1'
              iexact Hkp0_1'
            isplitl [HW']
            · iexists W'; isplitr; · ipureintro; exact fun _ _ => Or.inl trivial
              iexact HW'
            isplitl [H0]; · iexact H0
            isplitl [H1]; · iexact H1
            isplitl [H2]; · iexact H2
            iexact H3
          · exfalso; omega
      · exfalso; omega
    · by_cases h2 : t.val < 7
      · exfalso; omega
      · by_cases h3 : t.val % 8 = 0
        · exfalso; omega
        · by_cases h4 : 1 ≤ t.val
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [live3 (grid0.coords t)], after0_3, accum_next m c t (by omega)]
            simp only [before0_3 m c t (by omega)]
            have hr0 := rstep0_0_C t (fun h => h0 ((hcond0_0 t).mp h)) (fun h => h1 ((hcond0_1 t).mp h)) (fun h => h2 ((hcond0_2 t).mp h)) (fun h => h3 ((hcond0_3 t).mp h)) ((hcond0_4 t).mpr h4)
            obtain ⟨hK10, hKB0, hKs0⟩ := hr0
            rw [if_neg (show ¬t.val = 0 by omega), if_neg (show ¬t.val + 1 = 0 by omega)]
            rw [Ring.AtK2_here_last _ _ _ _ _ t.val hK10 hKB0, Ring.AtK2_next_last _ _ _ _ _ t.val hK10 hKB0]
            have hr1 := rstep0_1_C t (fun h => h0 ((hcond0_0 t).mp h)) (fun h => h1 ((hcond0_1 t).mp h)) (fun h => h2 ((hcond0_2 t).mp h)) (fun h => h3 ((hcond0_3 t).mp h)) ((hcond0_4 t).mpr h4)
            obtain ⟨hK11, hKB1, hKs1⟩ := hr1
            rw [if_neg (show ¬t.val = 0 by omega), if_neg (show ¬t.val + 1 = 0 by omega)]
            rw [Ring.AtK2_here_last _ _ _ _ _ t.val hK11 hKB1, Ring.AtK2_next_last _ _ _ _ _ t.val hK11 hKB1]
            iintro ⟨⟨Hg, ⟨-, Hfl0_0, Hkp0_0⟩, ⟨-, Hfl0_1, Hkp0_1⟩⟩, ⟨%W, -, HW⟩, ⟨%d0, H0⟩, ⟨%d1, H1⟩, ⟨%d2, H2⟩, ⟨%d3, H3⟩⟩
            iapply ((bodyRun_C c t _ (hs0_0 t) _ (hs0_1 t) _ (hs0_2 t) _ (hs0_3 t) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) _ (V m c main_arg1) (V m c main_arg4)) W _)
            isplitl [H0]; · iexact H0
            isplitl [H1]; · iexact H1
            isplitl [H2]; · iexact H2
            isplitl [H3]; · iexact H3
            isplitl [Hfl0_0]; · iexact Hfl0_0
            isplitl [Hfl0_1]; · iexact Hfl0_1
            isplitl [HW]; · iexact HW
            iintro ⟨H0, H1, H2, H3, Hkp0_0', Hkp0_1', ⟨%W', HW'⟩⟩
            isplitl [Hg Hkp0_0 Hkp0_1 Hkp0_0' Hkp0_1']
            · isplitl [Hg]; · iexact Hg
              isplitl [Hkp0_0 Hkp0_0']
              · iapply (Ring.with_homes (Idealize.SL.BI.Entails.refl _))
                isplitl [Hkp0_0]; · iexact Hkp0_0
                iexact Hkp0_0'
              iapply (Ring.with_homes (Idealize.SL.BI.Entails.refl _))
              isplitl [Hkp0_1]; · iexact Hkp0_1
              iexact Hkp0_1'
            isplitl [HW']
            · iexists W'; isplitr; · ipureintro; exact fun _ _ => Or.inl trivial
              iexact HW'
            isplitl [H0]; · iexact H0
            isplitl [H1]; · iexact H1
            isplitl [H2]; · iexact H2
            iexact H3
          · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HR0_0, HR0_1⟩, Hg, ⟨Hq0, Hq1, Hq2, Hq3⟩, ⟨Hh0, Hh1⟩⟩
  isplitl [Hg]; · iexact Hg
  isplitl [HR0_0 Hq0 Hq1 Hh0]
  · iapply (ring0_0_in (F := F) m c)
    isplitl [HR0_0]; · iexact HR0_0
    isplitl [Hq0 Hq1]
    · isplitl [Hq0]; · iexact Hq0
      iexact Hq1
    iexact Hh0
  iapply (ring0_1_in (F := F) m c)
  isplitl [HR0_1]; · iexact HR0_1
  isplitl [Hq2 Hq3]
  · isplitl [Hq2]; · iexact Hq2
    iexact Hq3
  iexact Hh1
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 8 by rw [N_0]]
  iintro ⟨Hg, HR0_0, HR0_1⟩
  ihave HX0_0 := (ring0_0_out (F := F) m c) $$ HR0_0
  icases HX0_0 with ⟨HR0_0, ⟨Hq0, Hq1⟩, Hh0⟩
  ihave HX0_1 := (ring0_1_out (F := F) m c) $$ HR0_1
  icases HX0_1 with ⟨HR0_1, ⟨Hq2, Hq3⟩, Hh1⟩
  isplitl [HR0_0 HR0_1]
  · isplitl [HR0_0]; · iexact HR0_0
    iexact HR0_1
  isplitl [Hg]
  · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexact Hh1

/-! ## The run and the frame -/

set_option backward.isDefEq.respectTransparency.types false in
set_option maxHeartbeats 800000 in
/-- The run of the whole program: every argument and the result end as the proof data and the host's last lines say, and
    every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every argument array ends as it began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Softmax.lean ====
/- The mathematics of one attention row over the extended reals, free of either program: a row's weights are the exponentials
   of its scores less their maximum, over their sum. Columns at −∞ weigh nothing, so a row may be read over the columns that
   remain. -/
module

public import Idealize.ShloMosaic.Lib.Pointwise

@[expose] public section

noncomputable section

namespace Cert.Attn

open Idealize.ShloMosaic

/-- The greatest score of a row. -/
def rowMax {n : ℕ} (f : Fin n → EReal) : EReal := Finset.univ.fold max ⊥ f
/-- A column's exponential. -/
def weight {n : ℕ} (f : Fin n → EReal) (s : Fin n) : EReal := Ideal.exp (f s - rowMax f)
/-- The values averaged by a row's weights. -/
def attend {n : ℕ} (f v : Fin n → EReal) : EReal := ∑ s, Ideal.div (weight f s) (∑ k, weight f k) * v s

/-! ## Real numbers among the extended reals -/

/-- `x` is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) {f : ι → EReal} (hf : ∀ i, IsReal (f i)) : IsReal (∑ i ∈ s, f i) := by
  classical
  induction s using Finset.induction_on with
  | empty => exact ⟨0, by simp⟩
  | insert a s ha ih =>
    obtain ⟨p, hp⟩ := hf a
    obtain ⟨q, hq⟩ := ih
    exact ⟨p + q, by rw [Finset.sum_insert ha, hp, hq, EReal.coe_add]⟩

theorem IsReal.ne_top {x : EReal} (hx : IsReal x) : x ≠ ⊤ := by
  obtain ⟨a, rfl⟩ := hx; exact EReal.coe_ne_top a
theorem IsReal.ne_bot {x : EReal} (hx : IsReal x) : x ≠ ⊥ := by
  obtain ⟨a, rfl⟩ := hx; exact EReal.coe_ne_bot a
theorem isReal_of_ne {x : EReal} (ht : x ≠ ⊤) (hb : x ≠ ⊥) : IsReal x := ⟨x.toReal, (EReal.coe_toReal ht hb).symm⟩

/-! ## A row's maximum, weights and their sum -/

theorem le_rowMax {n : ℕ} (f : Fin n → EReal) (s : Fin n) : f s ≤ rowMax f :=
  (Finset.le_fold_max _).2 (Or.inr ⟨s, Finset.mem_univ s, le_rfl⟩)

theorem rowMax_le {n : ℕ} {f : Fin n → EReal} {c : EReal} (h : ∀ s, f s ≤ c) : rowMax f ≤ c :=
  (Finset.fold_max_le _).2 ⟨bot_le, fun s _ => h s⟩

theorem rowMax_ne_top {n : ℕ} {f : Fin n → EReal} (h : ∀ s, f s ≠ ⊤) : rowMax f ≠ ⊤ :=
  ((Finset.fold_max_lt _).2 ⟨bot_lt_top, fun s _ => lt_top_iff_ne_top.2 (h s)⟩).ne

theorem exp_nonneg (x : EReal) : 0 ≤ Ideal.exp x := by
  induction x with
  | bot => simp
  | top => simp
  | coe a => rw [Ideal.exp_coe]; exact_mod_cast (Real.exp_pos a).le

theorem exp_pos_of_real {x : EReal} (hx : IsReal x) : 0 < Ideal.exp x := by
  obtain ⟨a, rfl⟩ := hx
  rw [Ideal.exp_coe]; exact_mod_cast Real.exp_pos a

/-- A column at −∞ weighs nothing. -/
theorem weight_bot {n : ℕ} {f : Fin n → EReal} {s : Fin n} (h : f s = ⊥) : weight f s = 0 := by
  unfold weight; rw [h, EReal.bot_sub, Ideal.exp_bot]

/-- A row with a real score and none at +∞ has a positive sum of weights. -/
theorem sum_weight_ne_zero {n : ℕ} {f : Fin n → EReal} (htop : ∀ s, f s ≠ ⊤) {u : Fin n} (hu : f u ≠ ⊥) : (∑ k, weight f k) ≠ 0 := by
  have hM : IsReal (rowMax f) := isReal_of_ne (rowMax_ne_top htop) fun h => hu (le_bot_iff.1 (h ▸ le_rowMax f u))
  have hw : 0 < weight f u := by
    refine exp_pos_of_real ?_
    obtain ⟨a, ha⟩ := isReal_of_ne (htop u) hu
    obtain ⟨b, hb⟩ := hM
    exact ⟨a - b, by rw [ha, hb, EReal.coe_sub]⟩
  exact (hw.trans_le (Finset.single_le_sum (f := weight f) (fun k _ => exp_nonneg _) (Finset.mem_univ u))).ne'

/-- Zero over anything but zero is zero. -/
theorem zero_div {y : EReal} (h : y ≠ 0) : Ideal.div 0 y = 0 := by
  unfold Ideal.div; rw [if_neg h, zero_mul]

/-- A row whose columns outside the image of `e` are at −∞ is the row over `e`'s columns. -/
theorem attend_reindex {m n : ℕ} (e : Fin m → Fin n) (he : Function.Injective e) (f v : Fin n → EReal)
    (hout : ∀ s, s ∉ Set.range e → f s = ⊥) (htop : ∀ s, f s ≠ ⊤) (u : Fin m) (hu : f (e u) ≠ ⊥) :
    attend f v = attend (fun i => f (e i)) (fun i => v (e i)) := by
  have hM : rowMax (fun i => f (e i)) = rowMax f := by
    refine le_antisymm (rowMax_le fun i => le_rowMax f (e i)) (rowMax_le fun s => ?_)
    by_cases hs : s ∈ Set.range e
    · obtain ⟨i, rfl⟩ := hs
      exact le_rowMax (fun i => f (e i)) i
    · rw [hout s hs]; exact bot_le
  have hW : ∀ i, weight (fun i => f (e i)) i = weight f (e i) := fun i => by unfold weight; rw [hM]
  have hS : (∑ i, weight (fun i => f (e i)) i) = ∑ s, weight f s :=
    Fintype.sum_of_injective e he _ _ (fun s hs => weight_bot (hout s hs)) hW
  unfold attend
  refine (Fintype.sum_of_injective e he _ _ (fun s hs => ?_) fun i => ?_).symm
  · rw [weight_bot (hout s hs), zero_div (sum_weight_ne_zero htop hu), zero_mul]
  · rw [hW, hS]

end Cert.Attn

end
-- ==== Proof.Block.lean ====
/- What one point of the idealized kernel adds to the output, read at an index: for each of the group's four heads, the values
   averaged by the weights of the masked scores over all 128 tokens, times the output weights of that head. -/
module

public import proofs.«01_k».proof.Proof.BodyRun
public import proofs.«01_k».proof.Proof.Softmax

@[expose] public section

set_option maxRecDepth 16384

noncomputable section

namespace Cert.KernelIdeal.Hand

open Cert.KernelIdeal Cert.KernelIdeal.Gen Idealize.ShloMosaic Idealize.ShloMosaic.TcCoe Idealize.SL.Sem
open Cert.Attn

/-- The mask at a pair of tokens: the column not after the row, both in one block of four. -/
theorem maskW_apply (r s : Fin 128) : maskW (ix2 r s) = if s.val ≤ r.val ∧ s.val / 4 = r.val / 4 then 1#1 else 0#1 := by
  pointwise [maskW, k0_pay10, k0_pay6, k0_pay7, k0_pay8, k0_pay9]
  revert r s
  decide +kernel

/-- One head's scores: token `r` against token `s`, times the reciprocal root of the head size, masked. -/
def rowK (x : Fin 128 → Fin 4096 → EReal) (wk q : Fin 4096 → Fin 128 → EReal) (r s : Fin 128) : EReal :=
  if s.val ≤ r.val ∧ s.val / 4 = r.val / 4 then
    (∑ d : Fin 128, (∑ i : Fin 4096, x r i * q i d) * ∑ i : Fin 4096, x s i * wk i d) * (((Real.sqrt 128)⁻¹ : ℝ) : EReal)
  else ⊥

/-- One head's result for token `r`: the values' column `d` averaged by the weights of the scores. -/
def headK (x : Fin 128 → Fin 4096 → EReal) (wk wv q : Fin 4096 → Fin 128 → EReal) (r d : Fin 128) : EReal :=
  attend (rowK x wk q r) (fun s => ∑ i : Fin 4096, x s i * wv i d)

theorem ofBits_bot : Ideal.ofBits .f32 0xFF800000#32 = ⊥ := by simp [Ideal.ofBits, Ideal.ieee]

/-- The scores as the kernel forms them. -/
def scoresK (x : FVec Ideal S128x4096 .f32) (wk q : FVec Ideal S4096x128 .f32) : FVec Ideal S128x128 .f32 :=
  select maskW (mulf (matmul dot_S128x128_S128x128_S128x128_1_1_0_0_n_n none
      (matmul dot_S128x4096_S4096x128_S128x128_1_0_0_1_n_n none (k0_pay3 x) q (constant S128x128 .f32 0x00000000#32)) (k0_pay4 x wk)
      (constant S128x128 .f32 0x00000000#32)) (broadcast S128x128 (Named.named κ "scale" 0x3DB504F3#32)))
    (broadcast S128x128 (Named.named κ "mask" 0xF149F2CA#32))

theorem scoresK_apply (x : FVec Ideal S128x4096 .f32) (wk q : FVec Ideal S4096x128 .f32) (r s : Fin 128) :
    scoresK x wk q (ix2 r s) = rowK (fun r i => x (ix2 r i)) (fun i d => wk (ix2 i d)) (fun i d => q (ix2 i d)) r s := by
  pointwise [scoresK, k0_pay3, k0_pay4, maskW_apply]
  unfold rowK
  by_cases h : s.val ≤ r.val ∧ s.val / 4 = r.val / 4
  · rw [if_pos h, if_pos h]; rfl
  · rw [if_neg h, if_neg h]; rfl

/-- The weighted values as the kernel forms them. -/
def headV (s v : FVec Ideal S128x128 .f32) : FVec Ideal S128x128 .f32 :=
  matmul dot_S128x128_S128x128_S128x128_1_0_0_1_n_n none
    (divf (exp (subf s (broadcastTo S128x128 (shapeCast S128x1 (multiReduction .maximumf [1] S128 s 0xFF800000#32 reduces_S128x128_S128 (.inl rfl) rfl) shapeCasts_S128_S128x1) broadcasts_S128x1_S128x128)))
      (broadcastTo S128x128 (shapeCast S128x1 (multiReduction .add [1] S128 (exp (subf s (broadcastTo S128x128 (shapeCast S128x1 (multiReduction .maximumf [1] S128 s 0xFF800000#32 reduces_S128x128_S128 (.inl rfl) rfl) shapeCasts_S128_S128x1) broadcasts_S128x1_S128x128)))
        0x00000000#32 reduces_S128x128_S128 (.inl rfl) rfl) shapeCasts_S128_S128x1) broadcasts_S128x1_S128x128))
    v (constant S128x128 .f32 0x00000000#32)

theorem headV_apply (s v : FVec Ideal S128x128 .f32) (r d : Fin 128) :
    headV s v (ix2 r d) = attend (fun k => s (ix2 r k)) (fun k => v (ix2 k d)) := by
  pointwise [headV]
  simp only [ofBits_bot]
  rfl

theorem pay13_apply (x : FVec Ideal S128x4096 .f32) (wk wv q : FVec Ideal S4096x128 .f32) (r d : Fin 128) :
    k0_pay13 (F := Ideal) (k0_pay3 x) (k0_pay4 x wk) (k0_pay5 x wv) maskW q (ix2 r d) =
      headK (fun r i => x (ix2 r i)) (fun i d => wk (ix2 i d)) (fun i d => wv (ix2 i d)) (fun i d => q (ix2 i d)) r d := by
  change headV (scoresK x wk q) (k0_pay5 x wv) (ix2 r d) = _
  rw [headV_apply]
  pointwise [scoresK_apply, k0_pay5, k0_pay3]
  rfl

theorem pay11_apply (x : FVec Ideal S128x4096 .f32) (wk wv q : FVec Ideal S4096x128 .f32) (r d : Fin 128) :
    k0_pay11 (F := Ideal) (k0_pay3 x) (k0_pay4 x wk) (k0_pay5 x wv) (iota .tc S128x128 32 [1] iota_S128x128_d1_w32) k0_pay6 k0_pay7 k0_pay8 k0_pay9
        0#32 q (ix2 r d) =
      headK (fun r i => x (ix2 r i)) (fun i d => wk (ix2 i d)) (fun i d => wv (ix2 i d)) (fun i d => q (ix2 i d)) r d :=
  pay13_apply x wk wv q r d
theorem pay12_apply (x : FVec Ideal S128x4096 .f32) (wk wv q : FVec Ideal S4096x128 .f32) (r d : Fin 128) :
    k0_pay12 (F := Ideal) (k0_pay3 x) (k0_pay4 x wk) (k0_pay5 x wv) maskW q (ix2 r d) =
      headK (fun r i => x (ix2 r i)) (fun i d => wk (ix2 i d)) (fun i d => wv (ix2 i d)) (fun i d => q (ix2 i d)) r d :=
  pay13_apply x wk wv q r d
theorem pay14_apply (x : FVec Ideal S128x4096 .f32) (wk wv q : FVec Ideal S4096x128 .f32) (r d : Fin 128) :
    k0_pay14 (F := Ideal) (k0_pay3 x) (k0_pay4 x wk) (k0_pay5 x wv) maskW q (ix2 r d) =
      headK (fun r i => x (ix2 r i)) (fun i d => wk (ix2 i d)) (fun i d => wv (ix2 i d)) (fun i d => q (ix2 i d)) r d :=
  pay13_apply x wk wv q r d

/-- One group's contribution at an index: its four heads' results times their rows of the output weights. -/
theorem groupOut_apply (x : FVec Ideal S128x4096 .f32) (wk wv : FVec Ideal S4096x128 .f32) (q : FVec Ideal S4096x512 .f32)
    (o : FVec Ideal S512x4096 .f32) (r : Fin 128) (j : Fin 4096) :
    groupOut (F := Ideal) x wk wv q o (ix2 r j) = ∑ h : Fin 4, ∑ d : Fin 128,
      headK (fun r i => x (ix2 r i)) (fun i d => wk (ix2 i d)) (fun i d => wv (ix2 i d))
        (fun i d => q (ix2 i ⟨h.val * 128 + d.val, by omega⟩)) r d * o (ix2 ⟨h.val * 128 + d.val, by omega⟩ j) := by
  pointwise [groupOut, k0_pay1, k0_pay15, pay11_apply, pay12_apply, pay13_apply, pay14_apply]
  rw [Fin.sum_univ_four]
  have h0 : ∀ d : Fin 128, (⟨(0 : Fin 4).val * 128 + d.val, by omega⟩ : Fin 512) = ⟨d.val, by omega⟩ := fun d =>
    Fin.ext (by show 0 * 128 + d.val = d.val; omega)
  refine congrArg₂ (· + ·) (congrArg₂ (· + ·) (congrArg₂ (· + ·) (Finset.sum_congr rfl fun d _ => ?_) rfl) rfl) rfl
  simp only [h0]
  exact congrArg (· * o (ix2 ⟨d.val, by omega⟩ j)) ((pay11_apply x wk wv _ r d).trans (by pointwise []))

end Cert.KernelIdeal.Hand

end
-- ==== Proof.Value.lean ====
/- What the idealized kernel's run leaves in the result: the output window is written back once, at the last point, whole, so
   its array holds the sum of all the groups' contributions; the host's last line reads it in the result's shape. And the
   windows' blocks, and the streamed blocks, at an index of the arguments. -/
module

public import proofs.«01_k».proof.Proof.Frame
public import proofs.«01_k».proof.Proof.Block
public import Idealize.ShloMosaic.Lib.Pipeline.Value
public import Idealize.ShloMosaic.Lib.Pipeline.ValueKit
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat Cfg Window)

section Run

variable {F : FTy → Type} [FloatOps F] [Named F]
variable (m : (ℓ : Loc nD τ sig) → Buf (Elt F) ℓ) (ρ : Dev nD → PrngReg)

/-- The last point. -/
abbrev last0 : Fin cfg0.N := ⟨7, by show 7 < grid0.N; rw [N_0]; decide⟩

/-- The output array after the run: what the output window holds after the last point. -/
def total (c : Dev nD) : Vec F S128x4096 .f32 := accum m c 7 last0.isLt

theorem final_out (c : Dev nD) : (dats m 0 c).arrAt 3 cfg0.N = total m c := by
  refine (dats m 0 c).arrAt_eq_of_after_last 3 last0 (by decide +kernel) (total m c) fun j => ?_
  rw [after0_3]
  rfl

/-- The result the run leaves. -/
def result (c : Dev nD) : Vec F S32x4x4096 .f32 := shapeCast S32x4x4096 (total m c) shapeCasts_S128x4096_S32x4x4096

theorem W_main_v0 (c : Dev nD) :
    Pipeline.afterTail₀ cfgs (dats m) 0 (V0 m) [hostOps1] c main_v0 = result m c := by
  have e : Pipeline.withArrays spec0 c (V0 m c) (fun w => (dats m 0 c).arrAt w cfg0.N) (Proc.devRef .tc main_call0_v1)
      = total m c :=
    (Pipeline.withArrays_arr spec0 (by decide) c (V0 m c) (fun w => (dats m 0 c).arrAt w cfg0.N) 3).trans (final_out m c)
  unfold Pipeline.afterTail₀
  simp only [hostOps1, List.flatten_cons, List.flatten_nil, List.append_nil]
  after_results
  unfold result
  rw [← e]
  rfl

/-- The run with its result named. -/
theorem run_value : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r (h : (∀ c : Dev nD, _) ∧ ∀ c : Dev nD, r.2.mem ((c.tc : Thread nD τ).loc main_v0) = result m c) c =>
      ⟨h.2 c, h.1 c⟩)
    (θ_run_and (frame_of m ρ (dats m) (A_eq m) (run_main m ρ))
      ((θ_run defs _ _).mono (fun _ h c => ((h c).2 main_v0 (Pipeline.mem_restRefs_of main_v0 (by decide) (by decide))).trans
        (W_main_v0 m c)) (run_main m ρ)))

end Run

/-! ## The blocks at an index -/

section Blocks

variable (m : (ℓ : Loc nD τ sig) → Buf (Elt Ideal) ℓ)

/-- The host's first line: the tokens' array in two axes. -/
theorem V_tokens (c : Dev nD) : V m c main_call0_v0
    = shapeCast S128x4096 (m ((c : Thread nD τ).loc main_arg0)) shapeCasts_S32x4x4096_S128x4096 := by
  show StableHlo.after (List.flatten [hostOps0]) (fun b => m (c, b)) (Proc.devRef .tc main_call0_v0) = _
  simp only [hostOps0, List.flatten_cons, List.flatten_nil, List.append_nil]
  after_results
  rfl

theorem idx1 : ∀ t : Fin cfg0.N, win0_1.index t 0 = 0 ∧ win0_1.index t 1 = t.val ∧ win0_2.index t 0 = 0 ∧ win0_2.index t 1 = t.val
    ∧ win0_0.index t 0 = 0 ∧ win0_0.index t 1 = 0 := by decide +kernel

theorem tokens_apply (x : FVec Ideal S32x4x4096 .f32) (r : Fin 128) (i : Fin 4096) :
    shapeCast S128x4096 x shapeCasts_S32x4x4096_S128x4096 (ix2 r i) = x (ix3 ⟨r.val / 4, by omega⟩ ⟨r.val % 4, by omega⟩ i) := by
  pointwise []

theorem result_apply (y : FVec Ideal S128x4096 .f32) (b : Fin 32) (t : Fin 4) (j : Fin 4096) :
    shapeCast S32x4x4096 y shapeCasts_S128x4096_S32x4x4096 (ix3 b t j) = y (ix2 ⟨b.val * 4 + t.val, by omega⟩ j) := by
  pointwise []

theorem block0 (c : Dev nD) (t : Fin cfg0.N) (r : Fin 128) (i : Fin 4096) : iblk m c 0 t (ix2 r i)
    = m ((c : Thread nD τ).loc main_arg0) (ix3 ⟨r.val / 4, by omega⟩ ⟨r.val % 4, by omega⟩ i) := by
  have e : iblk m c 0 t (ix2 r i) = V m c main_call0_v0 (ix2 r i) := by
    blk_ext [iblk, idx1 t]
  rw [e, V_tokens]
  exact tokens_apply _ r i

theorem block1 (c : Dev nD) (t : Fin cfg0.N) (i : Fin 4096) (d : Fin 128) : iblk m c 1 t (ix2 i d)
    = m ((c : Thread nD τ).loc main_arg2) (ix2 i ⟨t.val * 128 + d.val, by have : t.val < 8 := Nat.lt_of_lt_of_eq t.isLt N_0; omega⟩) := by
  rw [← V_main_arg2 m c]
  blk_ext [iblk, idx1 t]

theorem block2 (c : Dev nD) (t : Fin cfg0.N) (i : Fin 4096) (d : Fin 128) : iblk m c 2 t (ix2 i d)
    = m ((c : Thread nD τ).loc main_arg3) (ix2 i ⟨t.val * 128 + d.val, by have : t.val < 8 := Nat.lt_of_lt_of_eq t.isLt N_0; omega⟩) := by
  rw [← V_main_arg3 m c]
  blk_ext [iblk, idx1 t]

theorem blkQ_apply (c : Dev nD) (f : HbBuf0 (F := Ideal) c hbM0_0) (b : Fin 8) (i : Fin 4096) (w : Fin 512) :
    blkQ c f b (ix2 i w) = f (ix2 i ⟨b.val * 512 + w.val, by omega⟩) := by
  show f _ = f _
  congr 1; funext a; apply Fin.ext
  match a with
  | ⟨0, _⟩ => show 0 + 1 * i.val = i.val; omega
  | ⟨1, _⟩ => show 512 * b.val + 1 * w.val = b.val * 512 + w.val; omega

theorem blkO_apply (c : Dev nD) (f : HbBuf0 (F := Ideal) c hbM0_1) (b : Fin 8) (w : Fin 512) (j : Fin 4096) :
    blkO c f b (ix2 w j) = f (ix2 ⟨b.val * 512 + w.val, by omega⟩ j) := by
  show f _ = f _
  congr 1; funext a; apply Fin.ext
  match a with
  | ⟨0, _⟩ => show 512 * b.val + 1 * w.val = b.val * 512 + w.val; omega
  | ⟨1, _⟩ => show 0 + 1 * j.val = j.val; omega

end Blocks

end Cert.KernelIdeal.Hand

end
-- ==== Proof.Ref.lean ====
/- What the reference computes, read at an index: the projections, the masked scores of one head over one sequence's four
   tokens, their weighted average of the values, and the output projection of all heads side by side. -/
module

public import proofs.«01_k».proof.Proof.Gen.ReferenceIdeal.Run
public import proofs.«01_k».proof.Proof.Softmax

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Cert.Attn

/-! ## The reference's term, in pieces -/

/-- The causal mask of four tokens. -/
def maskR : IVec S4x4 1 :=
  select (cmpi .sge (addi (iotaInDim S4x4 32 0) (broadcastInDim S4x4 ![] bcast_S_S4x4 (constantI S_ 32 0#32))) (iotaInDim S4x4 32 1))
    (broadcastInDim S4x4 ![] bcast_S_S4x4 (constantI S_ 1 1#1)) (broadcastInDim S4x4 ![] bcast_S_S4x4 (constantI S_ 1 0#1))

/-- The queries, head by head. -/
def queries (x : FVec Ideal S32x4x4096 .f32) (wq : FVec Ideal S4096x4096 .f32) : FVec Ideal S32x32x4x128 .f32 :=
  transpose S32x32x4x128 [0, 2, 1, 3]
    (shapeCast _ (Host.dotGeneral dot_S32x4x4096_S4096x4096_S32x4x4096_2_0_01_1_n_n none x wq) shapeCasts_S32x4x4096_S32x4x32x128)
    transposes_S32x4x32x128_S32x32x4x128_0_2_1_3

/-- Keys or values, each of the eight heads repeated for the four query heads of its group. -/
def repeated (x : FVec Ideal S32x4x4096 .f32) (w : FVec Ideal S4096x1024 .f32) : FVec Ideal S32x32x4x128 .f32 :=
  shapeCast _ (broadcastInDim S32x8x4x4x128 ![0, 1, 3, 4] bcast_S32x8x4x128_S32x8x4x4x128_0_1_3_4
    (transpose S32x8x4x128 [0, 2, 1, 3]
      (shapeCast _ (Host.dotGeneral dot_S32x4x4096_S4096x1024_S32x4x1024_2_0_01_1_n_n none x w) shapeCasts_S32x4x1024_S32x4x8x128)
      transposes_S32x4x8x128_S32x8x4x128_0_2_1_3)) shapeCasts_S32x8x4x4x128_S32x32x4x128

/-- The scores over the root of the head size, masked. -/
def scoresR (x : FVec Ideal S32x4x4096 .f32) (wq : FVec Ideal S4096x4096 .f32) (wk : FVec Ideal S4096x1024 .f32) :
    FVec Ideal S32x32x4x4 .f32 :=
  select (broadcastInDim S32x32x4x4 ![0, 1, 2, 3] bcast_S1x1x4x4_S32x32x4x4_0_1_2_3
      (broadcastInDim S1x1x4x4 ![2, 3] bcast_S4x4_S1x1x4x4_2_3 maskR))
    (Host.divf (Host.dotGeneral dot_S32x32x4x128_S32x32x4x128_S32x32x4x4_3_3_2_2_01_01 none (queries x wq) (repeated x wk))
      (broadcastInDim S32x32x4x4 ![] bcast_S_S32x32x4x4 (Host.sqrt (constant S_ .f32 0x43000000#32))))
    (broadcastInDim S32x32x4x4 ![] bcast_S_S32x32x4x4 (id (constant S_ .f32 0xFF800000#32)))

/-- The exponentials of the scores less their row's maximum. -/
def weightsR (s : FVec Ideal S32x32x4x4 .f32) : FVec Ideal S32x32x4x4 .f32 :=
  Host.exp (subf s (broadcastInDim S32x32x4x4 ![0, 1, 2, 3] bcast_S32x32x4x1_S32x32x4x4_0_1_2_3
    (broadcastInDim S32x32x4x1 ![0, 1, 2] bcast_S32x32x4_S32x32x4x1_0_1_2
      (maximumf (broadcastInDim S32x32x4 ![] bcast_S_S32x32x4 (constant S_ .f32 0xFF800000#32))
        (Host.reduce FloatOps.maximumf s (constant S_ .f32 0xFF800000#32) reducesTo_S32x32x4x4_S32x32x4_d3 h_S_)))))

/-- The heads' results: the values averaged by the weights over their sum. -/
def headsR (s : FVec Ideal S32x32x4x4 .f32) (v : FVec Ideal S32x32x4x128 .f32) : FVec Ideal S32x32x4x128 .f32 :=
  Host.dotGeneral dot_S32x32x4x4_S32x32x4x128_S32x32x4x128_3_2_2_3_01_01 none
    (Host.divf (weightsR s) (broadcastInDim S32x32x4x4 ![0, 1, 2, 3] bcast_S32x32x4x1_S32x32x4x4_0_1_2_3
      (broadcastInDim S32x32x4x1 ![0, 1, 2] bcast_S32x32x4_S32x32x4x1_0_1_2
        (Host.reduceAdd (weightsR s) (constant S_ .f32 0x00000000#32) reducesTo_S32x32x4x4_S32x32x4_d3 h_S_)))) v

/-- The whole reference. -/
def refOut (x : FVec Ideal S32x4x4096 .f32) (wq : FVec Ideal S4096x4096 .f32) (wk wv : FVec Ideal S4096x1024 .f32)
    (wo : FVec Ideal S4096x4096 .f32) : FVec Ideal S32x4x4096 .f32 :=
  Host.dotGeneral dot_S32x4x4096_S4096x4096_S32x4x4096_2_0_01_1_n_n none
    (shapeCast _ (transpose S32x4x32x128 [0, 2, 1, 3] (headsR (scoresR x wq wk) (repeated x wv)) transposes_S32x32x4x128_S32x4x32x128_0_2_1_3)
      shapeCasts_S32x4x32x128_S32x4x4096) wo

/-- The reference's run ends at that term. -/
theorem res_eq (m : (ℓ : Loc nD τ sig) → Buf (Elt Ideal) ℓ) (c : Dev nD) : Value.res_out0 m c =
    refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## Read at an index -/

theorem maskR_apply (t u : Fin 4) : maskR (ix2 t u) = if u.val ≤ t.val then 1#1 else 0#1 := by
  pointwise [maskR]
  revert t u
  decide +kernel

theorem queries_apply (x : FVec Ideal S32x4x4096 .f32) (wq : FVec Ideal S4096x4096 .f32) (b n : Fin 32) (t : Fin 4) (d : Fin 128) :
    queries x wq (ix4 b n t d) = ∑ i : Fin 4096, x (ix3 b t i) * wq (ix2 i ⟨n.val * 128 + d.val, by omega⟩) := by
  pointwise [queries]

theorem repeated_apply (x : FVec Ideal S32x4x4096 .f32) (w : FVec Ideal S4096x1024 .f32) (b n : Fin 32) (t : Fin 4) (d : Fin 128) :
    repeated x w (ix4 b n t d) = ∑ i : Fin 4096, x (ix3 b t i) * w (ix2 i ⟨n.val / 4 * 128 + d.val, by omega⟩) := by
  pointwise [repeated]

/-- One head's scores of one token against the four of its sequence. -/
def rowR (x : FVec Ideal S32x4x4096 .f32) (wq : FVec Ideal S4096x4096 .f32) (wk : FVec Ideal S4096x1024 .f32) (b n : Fin 32) (t : Fin 4)
    (u : Fin 4) : EReal :=
  if u.val ≤ t.val then
    Ideal.div (∑ d : Fin 128, (∑ i : Fin 4096, x (ix3 b t i) * wq (ix2 i ⟨n.val * 128 + d.val, by omega⟩))
      * ∑ i : Fin 4096, x (ix3 b u i) * wk (ix2 i ⟨n.val / 4 * 128 + d.val, by omega⟩)) ((Real.sqrt 128 : ℝ) : EReal)
  else ⊥

theorem sqrt_ofBits : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num)]

theorem ofBits_bot : Ideal.ofBits .f32 0xFF800000#32 = ⊥ := by simp [Ideal.ofBits, Ideal.ieee]

theorem scoresR_apply (x : FVec Ideal S32x4x4096 .f32) (wq : FVec Ideal S4096x4096 .f32) (wk : FVec Ideal S4096x1024 .f32) (b n : Fin 32)
    (t u : Fin 4) : scoresR x wq wk (ix4 b n t u) = rowR x wq wk b n t u := by
  pointwise [scoresR, maskR_apply, queries_apply, repeated_apply]
  rw [sqrt_ofBits]
  unfold rowR
  by_cases h : u.val ≤ t.val
  · rw [if_pos h, if_pos h]; rfl
  · rw [if_neg h, if_neg h]; exact ofBits_bot

theorem headsR_apply (s : FVec Ideal S32x32x4x4 .f32) (v : FVec Ideal S32x32x4x128 .f32) (b n : Fin 32) (t : Fin 4) (d : Fin 128) :
    headsR s v (ix4 b n t d) = attend (fun u => s (ix4 b n t u)) (fun u => v (ix4 b n u d)) := by
  pointwise [headsR, weightsR]
  simp only [ofBits_bot, max_bot_left]
  rfl

/-- The reference's result at an index. -/
theorem refOut_apply (x : FVec Ideal S32x4x4096 .f32) (wq : FVec Ideal S4096x4096 .f32) (wk wv : FVec Ideal S4096x1024 .f32)
    (wo : FVec Ideal S4096x4096 .f32) (b : Fin 32) (t : Fin 4) (j : Fin 4096) : refOut x wq wk wv wo (ix3 b t j) =
      ∑ e : Fin 4096, attend (rowR x wq wk b ⟨e.val / 128, by omega⟩ t)
        (fun u => ∑ i : Fin 4096, x (ix3 b u i) * wv (ix2 i ⟨e.val / 128 / 4 * 128 + e.val % 128, by omega⟩)) * wo (ix2 e j) := by
  pointwise [refOut, headsR_apply, scoresR_apply, repeated_apply]

end Cert.ReferenceIdeal.Hand

end
-- ==== Proof.Equation.lean ====
/- The equation: the kernel's result, a sum over the eight groups of the contributions of their four heads, is the reference's
   one product over all 4096 columns of the heads. A head's row over the 128 tokens keeps only the tokens of its own batch, where
   it is the reference's row of four. -/
module

public import proofs.«01_k».proof.Proof.Value
public import proofs.«01_k».proof.Proof.Ref

@[expose] public section

set_option maxRecDepth 16384

noncomputable section

namespace Cert.Equation

open Cert.KernelIdeal Cert.KernelIdeal.Gen Cert.KernelIdeal.Hand Cert.Attn
open Idealize.ShloMosaic Idealize.ShloMosaic.TcCoe Idealize.SL.Sem

/-! ## One head -/

/-- The tokens in one axis. -/
def tokens (x : FVec Ideal S32x4x4096 .f32) (r : Fin 128) (i : Fin 4096) : EReal := x (ix3 ⟨r.val / 4, by omega⟩ ⟨r.val % 4, by omega⟩ i)
/-- Group `g`'s columns of the key or value weights. -/
def cols (w : FVec Ideal S4096x1024 .f32) (g : Fin 8) (i : Fin 4096) (d : Fin 128) : EReal := w (ix2 i ⟨g.val * 128 + d.val, by omega⟩)
/-- Head `h` of group `g`'s columns of the query weights. -/
def qcols (w : FVec Ideal S4096x4096 .f32) (g : Fin 8) (h : Fin 4) (i : Fin 4096) (d : Fin 128) : EReal :=
  w (ix2 i ⟨g.val * 512 + (h.val * 128 + d.val), by omega⟩)

/-- Token `u` of batch `b` among all the tokens. -/
def tok (b : Fin 32) (u : Fin 4) : Fin 128 := ⟨b.val * 4 + u.val, by omega⟩

theorem tok_injective (b : Fin 32) : Function.Injective (tok b) := fun u v h => by
  have := congrArg Fin.val h
  simp only [tok] at this
  exact Fin.ext (by omega)

theorem tokens_tok (x : FVec Ideal S32x4x4096 .f32) (b : Fin 32) (u : Fin 4) (i : Fin 4096) : tokens x (tok b u) i = x (ix3 b u i) := by
  unfold tokens tok
  have e1 : (⟨(b.val * 4 + u.val) / 4, by omega⟩ : Fin 32) = b := Fin.ext (by show (b.val * 4 + u.val) / 4 = b.val; omega)
  have e2 : (⟨(b.val * 4 + u.val) % 4, by omega⟩ : Fin 4) = u := Fin.ext (by show (b.val * 4 + u.val) % 4 = u.val; omega)
  exact congrArg₂ (fun a c => x (ix3 a c i)) e1 e2

/-- A head of a group, among all the heads. -/
def headIx (g : Fin 8) (h : Fin 4) : Fin 32 := ⟨g.val * 4 + h.val, by omega⟩

/-- Within a batch the kernel's scores are the reference's. -/
theorem score_eq (x : FVec Ideal S32x4x4096 .f32) (wq : FVec Ideal S4096x4096 .f32) (wk : FVec Ideal S4096x1024 .f32)
    (g : Fin 8) (h : Fin 4) (b : Fin 32) (t u : Fin 4) :
    rowK (tokens x) (cols wk g) (qcols wq g h) (tok b t) (tok b u) = Cert.ReferenceIdeal.Hand.rowR x wq wk b (headIx g h) t u := by
  unfold rowK Cert.ReferenceIdeal.Hand.rowR
  have hc : ((tok b u).val ≤ (tok b t).val ∧ (tok b u).val / 4 = (tok b t).val / 4) ↔ u.val ≤ t.val := by
    simp only [tok]; omega
  by_cases hut : u.val ≤ t.val
  · rw [if_pos (hc.2 hut), if_pos hut, Ideal.div_coe (by positivity), one_div]
    congr 1
    refine Finset.sum_congr rfl fun d _ => ?_
    congr 1
    · refine Finset.sum_congr rfl fun i _ => ?_
      rw [tokens_tok]
      congr 1
      unfold qcols headIx
      congr 2
      exact Fin.ext (by show g.val * 512 + (h.val * 128 + d.val) = (g.val * 4 + h.val) * 128 + d.val; omega)
    · refine Finset.sum_congr rfl fun i _ => ?_
      rw [tokens_tok]
      congr 1
      unfold cols headIx
      congr 2
      exact Fin.ext (by show g.val * 128 + d.val = (g.val * 4 + h.val) / 4 * 128 + d.val; omega)
  · rw [if_neg (fun hh => hut (hc.1 hh)), if_neg hut]

/-- Outside the batch the kernel's scores are at −∞. -/
theorem score_out (X : Fin 128 → Fin 4096 → EReal) (wk q : Fin 4096 → Fin 128 → EReal) (b : Fin 32) (t : Fin 4) (s : Fin 128)
    (hs : s ∉ Set.range (tok b)) : rowK X wk q (tok b t) s = ⊥ := by
  unfold rowK
  refine if_neg fun hh => hs ⟨⟨s.val - b.val * 4, ?_⟩, Fin.ext ?_⟩
  · have := hh.2; simp only [tok] at this; omega
  · have := hh.2; simp only [tok] at this ⊢; omega

/-- Real tokens and weights give scores that are real or −∞. -/
theorem score_ne_top {X : Fin 128 → Fin 4096 → EReal} {wk q : Fin 4096 → Fin 128 → EReal} (hX : ∀ r i, IsReal (X r i))
    (hk : ∀ i d, IsReal (wk i d)) (hq : ∀ i d, IsReal (q i d)) (r s : Fin 128) : rowK X wk q r s ≠ ⊤ := by
  unfold rowK
  split_ifs
  · exact (IsReal.mul (IsReal.sum _ fun d => IsReal.mul (IsReal.sum _ fun i => (hX r i).mul (hq i d)) (IsReal.sum _ fun i => (hX s i).mul (hk i d)))
      ⟨_, rfl⟩).ne_top
  · exact bot_ne_top

/-- A token's score against itself is real. -/
theorem score_self {X : Fin 128 → Fin 4096 → EReal} {wk q : Fin 4096 → Fin 128 → EReal} (hX : ∀ r i, IsReal (X r i))
    (hk : ∀ i d, IsReal (wk i d)) (hq : ∀ i d, IsReal (q i d)) (r : Fin 128) : rowK X wk q r r ≠ ⊥ := by
  unfold rowK
  rw [if_pos ⟨le_rfl, rfl⟩]
  exact (IsReal.mul (IsReal.sum _ fun d => IsReal.mul (IsReal.sum _ fun i => (hX r i).mul (hq i d)) (IsReal.sum _ fun i => (hX r i).mul (hk i d)))
    ⟨_, rfl⟩).ne_bot

/-- One head of the kernel is one head of the reference. -/
theorem head_eq (x : FVec Ideal S32x4x4096 .f32) (wq : FVec Ideal S4096x4096 .f32) (wk wv : FVec Ideal S4096x1024 .f32)
    (hx : ∀ i, IsReal (x i)) (hq : ∀ i, IsReal (wq i)) (hk : ∀ i, IsReal (wk i))
    (g : Fin 8) (h : Fin 4) (b : Fin 32) (t : Fin 4) (d : Fin 128) :
    headK (tokens x) (cols wk g) (cols wv g) (qcols wq g h) (tok b t) d
      = attend (Cert.ReferenceIdeal.Hand.rowR x wq wk b (headIx g h) t) (fun u => ∑ i : Fin 4096, x (ix3 b u i) * cols wv g i d) := by
  unfold headK
  have hX : ∀ r i, IsReal (tokens x r i) := fun _ _ => hx _
  have hK : ∀ i d, IsReal (cols wk g i d) := fun _ _ => hk _
  have hQ : ∀ i d, IsReal (qcols wq g h i d) := fun _ _ => hq _
  rw [attend_reindex (tok b) (tok_injective b) _ _ (score_out _ _ _ b t) (score_ne_top hX hK hQ _) t (score_self hX hK hQ _)]
  simp only [score_eq, tokens_tok]

/-! ## The sum over the points -/

section Points

variable (m : (ℓ : Loc nD τ sig) → Buf (Elt Ideal) ℓ)

/-- The arguments, by the reference's names. -/
abbrev argX (c : Dev nD) : FVec Ideal S32x4x4096 .f32 := m ((c : Thread nD τ).loc main_arg0)
abbrev argQ (c : Dev nD) : FVec Ideal S4096x4096 .f32 := m ((c : Thread nD τ).loc main_arg1)
abbrev argK (c : Dev nD) : FVec Ideal S4096x1024 .f32 := m ((c : Thread nD τ).loc main_arg2)
abbrev argV (c : Dev nD) : FVec Ideal S4096x1024 .f32 := m ((c : Thread nD τ).loc main_arg3)
abbrev argO (c : Dev nD) : FVec Ideal S4096x4096 .f32 := m ((c : Thread nD τ).loc main_arg4)

/-- What group `g` adds to the output at row `r`, column `j`. -/
def part (c : Dev nD) (r : Fin 128) (j : Fin 4096) (g : Fin 8) : EReal :=
  ∑ h : Fin 4, ∑ d : Fin 128, headK (tokens (argX m c)) (cols (argK m c) g) (cols (argV m c) g) (qcols (argQ m c) g h) r d
    * argO m c (ix2 ⟨g.val * 512 + (h.val * 128 + d.val), by omega⟩ j)

theorem outFirst_apply (c : Dev nD) (t : Fin cfg0.N) (r : Fin 128) (j : Fin 4096) :
    outFirst c t.val (iblk m c 0 t) (iblk m c 1 t) (iblk m c 2 t) (V m c main_arg1) (V m c main_arg4) (ix2 r j)
      = part m c r j ⟨t.val, Nat.lt_of_lt_of_eq t.isLt N_0⟩ := by
  have ht : t.val < 8 := Nat.lt_of_lt_of_eq t.isLt N_0
  have hb : Ring.bk 8 t.val = ⟨t.val, ht⟩ := Fin.ext (Ring.bk_val ht)
  unfold outFirst
  rw [hb]
  refine (groupOut_apply _ _ _ _ _ r j).trans ?_
  unfold part
  refine Finset.sum_congr rfl fun h _ => Finset.sum_congr rfl fun d _ => ?_
  have e0 : (fun (r : Fin 128) (i : Fin 4096) => iblk m c 0 t (ix2 r i)) = tokens (argX m c) :=
    funext fun r => funext fun i => block0 m c t r i
  have e1 : (fun (i : Fin 4096) (d : Fin 128) => iblk m c 1 t (ix2 i d)) = cols (argK m c) ⟨t.val, ht⟩ :=
    funext fun i => funext fun d => block1 m c t i d
  have e2 : (fun (i : Fin 4096) (d : Fin 128) => iblk m c 2 t (ix2 i d)) = cols (argV m c) ⟨t.val, ht⟩ :=
    funext fun i => funext fun d => block2 m c t i d
  have e3 : (fun (i : Fin 4096) (d : Fin 128) => blkQ c (V m c main_arg1) ⟨t.val, ht⟩ (ix2 i ⟨h.val * 128 + d.val, by omega⟩))
      = qcols (argQ m c) ⟨t.val, ht⟩ h :=
    funext fun i => funext fun d => (blkQ_apply c (V m c main_arg1) ⟨t.val, ht⟩ i _).trans (congrFun (V_main_arg1 m c) _)
  have e4 : blkO c (V m c main_arg4) ⟨t.val, ht⟩ (ix2 ⟨h.val * 128 + d.val, by omega⟩ j)
      = argO m c (ix2 ⟨t.val * 512 + (h.val * 128 + d.val), by omega⟩ j) :=
    (blkO_apply c (V m c main_arg4) ⟨t.val, ht⟩ _ j).trans (congrFun (V_main_arg4 m c) _)
  refine congrArg₂ (fun a b : EReal => a * b) ?_ e4
  show headK _ _ _ _ r d = _
  exact congrFun (congrFun (congr (congr (congr (congrArg headK e0) e1) e2) e3) r) d

theorem outNext_apply (c : Dev nD) (k : ℕ) (x0 : FVec Ideal S128x4096 .f32) (x1 x2 : FVec Ideal S4096x128 .f32) (xo : FVec Ideal S128x4096 .f32)
    (f0 : HbBuf0 (F := Ideal) c hbM0_0) (f1 : HbBuf0 (F := Ideal) c hbM0_1) (r : Fin 128) (j : Fin 4096) :
    outNext c k x0 x1 x2 xo f0 f1 (ix2 r j) = xo (ix2 r j) + outFirst c k x0 x1 x2 f0 f1 (ix2 r j) := by
  pointwise [outNext]

theorem accum_apply (c : Dev nD) (r : Fin 128) (j : Fin 4096) : ∀ (n : ℕ) (h : n < cfg0.N),
    accum m c n h (ix2 r j) = ∑ g : Fin (n + 1), part m c r j ⟨g.val, Nat.lt_of_lt_of_eq (Nat.lt_of_lt_of_le g.isLt h) N_0⟩
  | 0, h => by
    rw [Fin.sum_univ_one]
    exact outFirst_apply m c ⟨0, h⟩ r j
  | n + 1, h => by
    rw [Fin.sum_univ_castSucc]
    refine (outNext_apply c (n + 1) _ _ _ _ _ _ r j).trans ?_
    exact congrArg₂ (fun a b : EReal => a + b) (accum_apply c r j n (Nat.lt_of_succ_lt h)) (outFirst_apply m c ⟨n + 1, h⟩ r j)

theorem total_apply (c : Dev nD) (r : Fin 128) (j : Fin 4096) : total m c (ix2 r j) = ∑ g : Fin 8, part m c r j g :=
  accum_apply m c r j 7 _

end Points

/-! ## The whole -/

/-- The kernel's result at an entry is the reference's, of real tokens, query and key weights. -/
theorem entry_eq (m : (ℓ : Loc nD τ sig) → Buf (Elt Ideal) ℓ) (c : Dev nD) (hx : ∀ i, IsReal (argX m c i)) (hq : ∀ i, IsReal (argQ m c i))
    (hk : ∀ i, IsReal (argK m c i)) (b : Fin 32) (t : Fin 4) (j : Fin 4096) :
    result m c (ix3 b t j) = Cert.ReferenceIdeal.Hand.refOut (argX m c) (argQ m c) (argK m c) (argV m c) (argO m c) (ix3 b t j) := by
  refine (result_apply _ b t j).trans ((total_apply m c _ j).trans ?_)
  rw [Cert.ReferenceIdeal.Hand.refOut_apply, Fin.sum_univ_tiles 8 512 rfl]
  refine Finset.sum_congr rfl fun g _ => ?_
  rw [Fin.sum_univ_tiles 4 128 rfl]
  unfold part
  refine Finset.sum_congr rfl fun h _ => Finset.sum_congr rfl fun d _ => ?_
  refine congrArg₂ (fun a b : EReal => a * b) ?_ rfl
  refine (head_eq (argX m c) (argQ m c) (argK m c) (argV m c) hx hq hk g h b t d).trans ?_
  have eh : headIx g h = ⟨(g.val * 512 + (h.val * 128 + d.val)) / 128, by omega⟩ :=
    Fin.ext (by show g.val * 4 + h.val = (g.val * 512 + (h.val * 128 + d.val)) / 128; omega)
  rw [eh]
  congr 1
  funext u
  refine Finset.sum_congr rfl fun i _ => ?_
  congr 1
  unfold cols
  congr 2
  exact Fin.ext (by
    show g.val * 128 + d.val = (g.val * 512 + (h.val * 128 + d.val)) / 128 / 4 * 128 + (g.val * 512 + (h.val * 128 + d.val)) % 128; omega)

/-- The kernel's result is the reference's. -/
theorem result_eq (m : (ℓ : Loc nD τ sig) → Buf (Elt Ideal) ℓ) (c : Dev nD) (hx : ∀ i, IsReal (argX m c i)) (hq : ∀ i, IsReal (argQ m c i))
    (hk : ∀ i, IsReal (argK m c i)) :
    result m c = Cert.ReferenceIdeal.Hand.refOut (argX m c) (argQ m c) (argK m c) (argV m c) (argO m c) := by
  funext y
  have e : y = ix3 (y 0) (y 1) (y 2) := by
    funext a
    match a with
    | ⟨0, _⟩ => rfl
    | ⟨1, _⟩ => rfl
    | ⟨2, _⟩ => rfl
  rw [e]
  exact entry_eq m c hx hq hk (y 0) (y 1) (y 2)

end Cert.Equation

end
-- ==== Proof.Finite.lean ====
/- The precondition read back: where it holds, every entry of the tokens, the query weights and the key weights is a real
   number. -/
module

public import proofs.«01_k».proof.Proof.Gen.Pre_finite_scores
public import proofs.«01_k».proof.Proof.Softmax
public import Idealize.ShloMosaic.Lib.ReduceAll

@[expose] public section

set_option maxRecDepth 16384

noncomputable section

namespace Cert.Finite

open Cert.Pre_finite_scores Idealize.ShloMosaic Cert.Attn

/-- A number whose absolute value compares below +∞ is real. -/
theorem isReal_of_abs_lt {x : EReal} (h : FloatOps.cmpf (F := Ideal) (φ := .f32) .olt (FloatOps.hostAbsf (F := Ideal) (φ := .f32) x) (Ideal.ofBits .f32 0x7F800000#32) = 1#1) :
    IsReal x := by
  have ht : Ideal.ofBits .f32 0x7F800000#32 = ⊤ := by simp [Ideal.ofBits, Ideal.ieee]
  rw [ht] at h
  change BitVec.ofBool (decide (max x (-x) < ⊤)) = 1#1 at h
  have hlt : max x (-x) < ⊤ := by
    by_contra hn
    rw [decide_eq_false hn] at h
    exact absurd h (by decide)
  obtain ⟨h1, h2⟩ := max_lt_iff.1 hlt
  refine isReal_of_ne h1.ne fun hb => ?_
  rw [hb, EReal.neg_bot] at h2
  exact lt_irrefl _ h2

theorem and_one {a b : IVec S_ 1} (h : andi a b = fun _ => 1#1) : a = (fun _ => 1#1) ∧ b = fun _ => 1#1 := by
  constructor <;> funext i <;> have := congrFun h i
  all_goals
    change a i &&& b i = 1#1 at this
    revert this
    generalize a i = p
    generalize b i = q
    revert p q
    decide

instance : Subsingleton S_.Idx := ⟨fun a b => funext fun i => i.elim0⟩

theorem real_of_pre [Facts] (x : FVec Ideal S32x4x4096 .f32) (wq : FVec Ideal S4096x4096 .f32) (wk wv : FVec Ideal S4096x1024 .f32)
    (wo : FVec Ideal S4096x4096 .f32) (h : fn (F := Ideal) x wq wk wv wo = fun _ => 1#1) :
    (∀ i, IsReal (x i)) ∧ (∀ i, IsReal (wq i)) ∧ ∀ i, IsReal (wk i) := by
  dsimp only [fn] at h
  obtain ⟨h1, h3⟩ := and_one h
  obtain ⟨h1, h2⟩ := and_one h1
  refine ⟨fun i => isReal_of_abs_lt ?_, fun i => isReal_of_abs_lt ?_, fun i => isReal_of_abs_lt ?_⟩
  · exact Host.reduce_andi_all _ _ _ _ (fun a => a.elim0) (congrFun h1 _) i
  · exact Host.reduce_andi_all _ _ _ _ (fun a => a.elim0) (congrFun h2 _) i
  · exact Host.reduce_andi_all _ _ _ _ (fun a => a.elim0) (congrFun h3 _) i

end Cert.Finite

end
-- ==== Proof.lean ====
/- The certificate: the three programs' frames, the two named constants, and the value claim — the idealized kernel and the
   reference end with the same result. -/
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.Frame
public import proofs.«01_k».proof.Proof.Equation
public import proofs.«01_k».proof.Proof.Finite
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference's frame: it runs host operations only, and has no counter. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run (F := Ideal) m g)

/-- The two literals named: the reciprocal root of the head size, and −∞. -/
theorem preserved : Cert.preserves_Kernel_KernelIdeal :=
  ⟨IdealRules.named_const.statement Cert.KernelIdeal.κ "scale" .f32 0x3DB504F3#32 (((Real.sqrt 128)⁻¹ : ℝ) : EReal) rfl,
    IdealRules.named_const.statement Cert.KernelIdeal.κ "mask" .f32 0xF149F2CA#32 (⊥ : EReal) rfl⟩

/-- The value: of finite tokens, query and key weights both programs end with the reference's result. -/
theorem value : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := fun m g m' g' hpre hagree =>
  ⟨fun c => Cert.KernelIdeal.Hand.result m c, Cert.KernelIdeal.Hand.run_value m g,
    (θ_run Cert.ReferenceIdeal.defs _ _).mono (fun r h c => ⟨by
        obtain ⟨a0, a1, a2, a3, a4⟩ := hagree c
        obtain ⟨hx, hq, hk⟩ := Cert.Finite.real_of_pre _ _ _ _ _ (hpre c)
        refine (h c).1.trans ((Cert.ReferenceIdeal.Hand.res_eq m' c).trans ?_)
        rw [a0, a1, a2, a3, a4]
        exact (Cert.Equation.result_eq m c hx hq hk).symm, (h c).2⟩)
      (Cert.ReferenceIdeal.Value.run (F := Ideal) m' g')⟩

/-- All the claims. -/
theorem claim : Cert.Claim :=
  ⟨Cert.Kernel.Gen.facts, Cert.KernelIdeal.Gen.facts, Cert.ReferenceIdeal.Gen.facts, Cert.Pre_finite_scores.Gen.facts,
    fun m ρ _ => Cert.Kernel.Hand.frame m ρ, fun m ρ _ => Cert.KernelIdeal.Hand.frame m ρ, fun m ρ _ => Cert.KernelIdeal.Hand.frame m ρ,
    frame_reference, fun m g _ => frame_reference m g trivial, preserved, value⟩

end Cert.Proof

end
